-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above_neg_inf [hPre_above_neg_inf : Cert.Pre_above_neg_inf.Facts] (m : (ℓ : Loc Cert.KernelIdeal.nD Cert.KernelIdeal.τ Cert.KernelIdeal.sig) → Buf (Elt Ideal) ℓ) : Prop :=
  ∀ c : Dev Cert.KernelIdeal.nD,
    (Cert.Pre_above_neg_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_neg_inf [hPre_above_neg_inf : Cert.Pre_above_neg_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_neg_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_above_neg_inf [hKernelIdeal : Cert.KernelIdeal.Facts] [hPre_above_neg_inf : Cert.Pre_above_neg_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_neg_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_above_neg_inf [hReferenceIdeal : Cert.ReferenceIdeal.Facts] [hPre_above_neg_inf : Cert.Pre_above_neg_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_neg_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "bin_height" .f32 0x414CCCCD#32 ((64 / 5 : ℝ) : EReal)

def algebraic_KernelIdeal_ReferenceIdeal_pre_above_neg_inf [hKernelIdeal : Cert.KernelIdeal.Facts] [hReferenceIdeal : Cert.ReferenceIdeal.Facts] [hPre_above_neg_inf : Cert.Pre_above_neg_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_neg_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_above_neg_inf : Cert.Pre_above_neg_inf.Facts),
    quiescent_Kernel (hKernel := hKernel)
    ∧ quiescent_KernelIdeal (hKernelIdeal := hKernelIdeal)
    ∧ quiescent_KernelIdeal_pre_above_neg_inf (hKernelIdeal := hKernelIdeal) (hPre_above_neg_inf := hPre_above_neg_inf)
    ∧ quiescent_ReferenceIdeal (hReferenceIdeal := hReferenceIdeal)
    ∧ quiescent_ReferenceIdeal_pre_above_neg_inf (hReferenceIdeal := hReferenceIdeal) (hPre_above_neg_inf := hPre_above_neg_inf)
    ∧ preserves_Kernel_KernelIdeal
    ∧ algebraic_KernelIdeal_ReferenceIdeal_pre_above_neg_inf (hKernelIdeal := hKernelIdeal) (hReferenceIdeal := hReferenceIdeal) (hPre_above_neg_inf := hPre_above_neg_inf)
-- ==== Pre_above_neg_inf.lean ====
abbrev S40x1x64x64 : Shape := ⟨4, ![40, 1, 64, 64]⟩
abbrev S40x2x64x64 : Shape := ⟨4, ![40, 2, 64, 64]⟩
abbrev S40x4x64x64 : Shape := ⟨4, ![40, 4, 64, 64]⟩
abbrev S40x128x64x64 : Shape := ⟨4, ![40, 128, 64, 64]⟩
abbrev S128x4 : Shape := ⟨2, ![128, 4]⟩
abbrev S128 : Shape := ⟨1, ![128]⟩
abbrev S128x128 : Shape := ⟨2, ![128, 128]⟩
abbrev S_ : Shape := ⟨0, ![]⟩

class Facts : Prop where
  bcast_S_S40x1x64x64 : S_.BroadcastsInDim S40x1x64x64 (![] : Fin 0 → Fin S40x1x64x64.rank)
  reducesTo_S40x1x64x64_S_d0_1_2_3 : S40x1x64x64.ReducesTo [0, 1, 2, 3] S_
  h_S_ : 0 < S_.numel

variable [Facts]

def fn {F : FTy → Type} [FloatOps F] (main_arg0 : FVec F S40x1x64x64 .f32) (main_arg1 : FVec F S40x2x64x64 .f32) (main_arg2 : FVec F S40x4x64x64 .f32) (main_arg3 : FVec F S40x128x64x64 .f32) (main_arg4 : FVec F S40x128x64x64 .f32) (main_arg5 : FVec F S128x4 .f32) (main_arg6 : FVec F S128 .f32) (main_arg7 : FVec F S128x128 .f32) (main_arg8 : FVec F S128 .f32) : IVec S_ 1 :=
  let main_cst : FVec F S_ .f32 := constant S_ .f32 0xFF800000#32
  let main_v0 : FVec F S40x1x64x64 .f32 := broadcastInDim S40x1x64x64 ![] bcast_S_S40x1x64x64 main_cst
  let main_v1 : IVec S40x1x64x64 1 := cmpf .ogt main_arg0 main_v0
  let main_c : IVec S_ 1 := constantI S_ 1 1#1
  let main_v2 : IVec S_ 1 := (fun x v => Host.reduce IntOp.andi x v reducesTo_S40x1x64x64_S_d0_1_2_3 h_S_) main_v1 main_c
  main_v2
-- ==== Kernel.lean ====
abbrev S40x1x64x64 : Shape := ⟨4, ![40, 1, 64, 64]⟩
abbrev S40x2x64x64 : Shape := ⟨4, ![40, 2, 64, 64]⟩
abbrev S40x4x64x64 : Shape := ⟨4, ![40, 4, 64, 64]⟩
abbrev S40x128x64x64 : Shape := ⟨4, ![40, 128, 64, 64]⟩
abbrev S128x4 : Shape := ⟨2, ![128, 4]⟩
abbrev S128 : Shape := ⟨1, ![128]⟩
abbrev S128x128 : Shape := ⟨2, ![128, 128]⟩
abbrev S20 : Shape := ⟨1, ![20]⟩
abbrev S25x14 : Shape := ⟨2, ![25, 14]⟩
abbrev S40x64x64x128 : Shape := ⟨4, ![40, 64, 64, 128]⟩
abbrev S_ : Shape := ⟨0, ![]⟩
abbrev S20x1 : Shape := ⟨2, ![20, 1]⟩
abbrev S40x128x20x64 : Shape := ⟨4, ![40, 128, 20, 64]⟩
abbrev S40x20x64x128 : Shape := ⟨4, ![40, 20, 64, 128]⟩
abbrev S4x128 : Shape := ⟨2, ![4, 128]⟩
abbrev S1x128 : Shape := ⟨2, ![1, 128]⟩
abbrev S128x1 : Shape := ⟨2, ![128, 1]⟩
abbrev S40x4x128x14 : Shape := ⟨4, ![40, 4, 128, 14]⟩
abbrev S1x1x64x64 : Shape := ⟨4, ![1, 1, 64, 64]⟩
abbrev S1x2x64x64 : Shape := ⟨4, ![1, 2, 64, 64]⟩
abbrev S1x4x64x64 : Shape := ⟨4, ![1, 4, 64, 64]⟩
abbrev S1x64x64x128 : Shape := ⟨4, ![1, 64, 64, 128]⟩
abbrev S1x20x64x128 : Shape := ⟨4, ![1, 20, 64, 128]⟩
abbrev S1x4x128x14 : Shape := ⟨4, ![1, 4, 128, 14]⟩
abbrev S64x64 : Shape := ⟨2, ![64, 64]⟩
abbrev S5x64 : Shape := ⟨2, ![5, 64]⟩
abbrev S5x1 : Shape := ⟨2, ![5, 1]⟩
abbrev S1x5x1 : Shape := ⟨3, ![1, 5, 1]⟩
abbrev S5x1x1 : Shape := ⟨3, ![5, 1, 1]⟩
abbrev S5x20 : Shape := ⟨2, ![5, 20]⟩
abbrev S20x20 : Shape := ⟨2, ![20, 20]⟩
abbrev S1x64x64 : Shape := ⟨3, ![1, 64, 64]⟩
abbrev S1 : Shape := ⟨1, ![1]⟩
abbrev S1x1x1 : Shape := ⟨3, ![1, 1, 1]⟩
abbrev S1x1 : Shape := ⟨2, ![1, 1]⟩
abbrev S20x64 : Shape := ⟨2, ![20, 64]⟩
abbrev S80x64 : Shape := ⟨2, ![80, 64]⟩
abbrev S64x64x128 : Shape := ⟨3, ![64, 64, 128]⟩
abbrev S80x64x128 : Shape := ⟨3, ![80, 64, 128]⟩
abbrev S20x64x128 : Shape := ⟨3, ![20, 64, 128]⟩
abbrev S80x20x128 : Shape := ⟨3, ![80, 20, 128]⟩
abbrev S20x20x128 : Shape := ⟨3, ![20, 20, 128]⟩
abbrev S5x5x128 : Shape := ⟨3, ![5, 5, 128]⟩
abbrev S5x5x1 : Shape := ⟨3, ![5, 5, 1]⟩
abbrev S25x128 : Shape := ⟨2, ![25, 128]⟩
abbrev S128x14 : Shape := ⟨2, ![128, 14]⟩
abbrev S1x4 : Shape := ⟨2, ![1, 4]⟩
abbrev S1x1x128x14 : Shape := ⟨4, ![1, 1, 128, 14]⟩

abbrev nBuf : Space → Nat
  | .hbm => 24
  | .vmem => 17
  | .smem => 0
  | _ => 0

abbrev bufTy : (tb : Table) → Fin (tcTables nBuf tb) → BufTy
  | .hbm, ⟨0, _⟩ => ⟨S40x1x64x64, .f32⟩
  | .hbm, ⟨1, _⟩ => ⟨S40x2x64x64, .f32⟩
  | .hbm, ⟨2, _⟩ => ⟨S40x4x64x64, .f32⟩
  | .hbm, ⟨3, _⟩ => ⟨S40x128x64x64, .f32⟩
  | .hbm, ⟨4, _⟩ => ⟨S40x128x64x64, .f32⟩
  | .hbm, ⟨5, _⟩ => ⟨S128x4, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S20, .i32⟩
  | .hbm, ⟨10, _⟩ => ⟨S20, .i1⟩
  | .hbm, ⟨11, _⟩ => ⟨S25x14, .f32⟩
  | .hbm, ⟨12, _⟩ => ⟨S40x64x64x128, .f32⟩
  | .hbm, ⟨13, _⟩ => ⟨S_, .i32⟩
  | .hbm, ⟨14, _⟩ => ⟨S20, .i32⟩
  | .hbm, ⟨15, _⟩ => ⟨S20, .i32⟩
  | .hbm, ⟨16, _⟩ => ⟨S20, .i32⟩
  | .hbm, ⟨17, _⟩ => ⟨S20x1, .i32⟩
  | .hbm, ⟨18, _⟩ => ⟨S40x128x20x64, .f32⟩
  | .hbm, ⟨19, _⟩ => ⟨S40x20x64x128, .f32⟩
  | .hbm, ⟨20, _⟩ => ⟨S4x128, .f32⟩
  | .hbm, ⟨21, _⟩ => ⟨S1x128, .f32⟩
  | .hbm, ⟨22, _⟩ => ⟨S128x1, .f32⟩
  | .hbm, ⟨23, _⟩ => ⟨S40x4x128x14, .f32⟩
  | .local _ .vmem, ⟨0, _⟩ => ⟨S1x1x64x64, .f32⟩
  | .local _ .vmem, ⟨1, _⟩ => ⟨S1x1x64x64, .f32⟩
  | .local _ .vmem, ⟨2, _⟩ => ⟨S1x2x64x64, .f32⟩
  | .local _ .vmem, ⟨3, _⟩ => ⟨S1x2x64x64, .f32⟩
  | .local _ .vmem, ⟨4, _⟩ => ⟨S1x4x64x64, .f32⟩
  | .local _ .vmem, ⟨5, _⟩ => ⟨S1x4x64x64, .f32⟩
  | .local _ .vmem, ⟨6, _⟩ => ⟨S1x64x64x128, .f32⟩
  | .local _ .vmem, ⟨7, _⟩ => ⟨S1x64x64x128, .f32⟩
  | .local _ .vmem, ⟨8, _⟩ => ⟨S1x20x64x128, .f32⟩
  | .local _ .vmem, ⟨9, _⟩ => ⟨S1x20x64x128, .f32⟩
  | .local _ .vmem, ⟨10, _⟩ => ⟨S4x128, .f32⟩
  | .local _ .vmem, ⟨11, _⟩ => ⟨S1x128, .f32⟩
  | .local _ .vmem, ⟨12, _⟩ => ⟨S128x128, .f32⟩
  | .local _ .vmem, ⟨13, _⟩ => ⟨S128x1, .f32⟩
  | .local _ .vmem, ⟨14, _⟩ => ⟨S25x14, .f32⟩
  | .local _ .vmem, ⟨15, _⟩ => ⟨S1x4x128x14, .f32⟩
  | .local _ .vmem, ⟨16, _⟩ => ⟨S1x4x128x14, .f32⟩
  | _, _ => ⟨S40x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_c_0 : Ref sig .tc := ⟨.hbm, 10, rfl⟩
abbrev main_call0_cst : Ref sig .tc := ⟨.hbm, 11, rfl⟩
abbrev main_call0_v0 : Ref sig .tc := ⟨.hbm, 12, rfl⟩
abbrev main_call0_c_1 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![40], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x20x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S25x14 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x4x128x14 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "bin_height" => some ((64 / 5 : ℝ) : EReal)
  | _ => none
-- ==== ReferenceIdeal.lean ====
abbrev S40x1x64x64 : Shape := ⟨4, ![40, 1, 64, 64]⟩
abbrev S40x2x64x64 : Shape := ⟨4, ![40, 2, 64, 64]⟩
abbrev S40x4x64x64 : Shape := ⟨4, ![40, 4, 64, 64]⟩
abbrev S40x128x64x64 : Shape := ⟨4, ![40, 128, 64, 64]⟩
abbrev S128x4 : Shape := ⟨2, ![128, 4]⟩
abbrev S128 : Shape := ⟨1, ![128]⟩
abbrev S128x128 : Shape := ⟨2, ![128, 128]⟩
abbrev S40x4096 : Shape := ⟨2, ![40, 4096]⟩
abbrev S40x4 : Shape := ⟨2, ![40, 4]⟩
abbrev S_ : Shape := ⟨0, ![]⟩
abbrev S40x1x4 : Shape := ⟨3, ![40, 1, 4]⟩
abbrev S40x2x4 : Shape := ⟨3, ![40, 2, 4]⟩
abbrev S40x2x4096 : Shape := ⟨3, ![40, 2, 4096]⟩
abbrev S40x4x1 : Shape := ⟨3, ![40, 4, 1]⟩
abbrev S40x4x4096 : Shape := ⟨3, ![40, 4, 4096]⟩
abbrev S40x4x4 : Shape := ⟨3, ![40, 4, 4]⟩
abbrev S80x128x64x64 : Shape := ⟨4, ![80, 128, 64, 64]⟩
abbrev S80x128x4096 : Shape := ⟨3, ![80, 128, 4096]⟩
abbrev S80x2x4 : Shape := ⟨3, ![80, 2, 4]⟩
abbrev S10 : Shape := ⟨1, ![10]⟩
abbrev S80x2x4x1 : Shape := ⟨4, ![80, 2, 4, 1]⟩
abbrev S1x1x1x10 : Shape := ⟨4, ![1, 1, 1, 10]⟩
abbrev S80x2x4x10 : Shape := ⟨4, ![80, 2, 4, 10]⟩
abbrev S80x1x4x10 : Shape := ⟨4, ![80, 1, 4, 10]⟩
abbrev S80x4x10 : Shape := ⟨3, ![80, 4, 10]⟩
abbrev S80x4x1x10 : Shape := ⟨4, ![80, 4, 1, 10]⟩
abbrev S80x4x10x1 : Shape := ⟨4, ![80, 4, 10, 1]⟩
abbrev S80x4x10x10 : Shape := ⟨4, ![80, 4, 10, 10]⟩
abbrev S80x4x10x10x1 : Shape := ⟨5, ![80, 4, 10, 10, 1]⟩
abbrev S80x128x4x10x10 : Shape := ⟨5, ![80, 128, 4, 10, 10]⟩
abbrev S80x1x4x10x10 : Shape := ⟨5, ![80, 1, 4, 10, 10]⟩
abbrev S80x128x4x5x10 : Shape := ⟨5, ![80, 128, 4, 5, 10]⟩
abbrev S80x128x4x5x5 : Shape := ⟨5, ![80, 128, 4, 5, 5]⟩
abbrev S80x128x4x25 : Shape := ⟨4, ![80, 128, 4, 25]⟩
abbrev S25x14 : Shape := ⟨2, ![25, 14]⟩
abbrev S80x128x4x14 : Shape := ⟨4, ![80, 128, 4, 14]⟩
abbrev S80x4x4 : Shape := ⟨3, ![80, 4, 4]⟩
abbrev S4x128 : Shape := ⟨2, ![4, 128]⟩
abbrev S80x4x128 : Shape := ⟨3, ![80, 4, 128]⟩
abbrev S1x1x128 : Shape := ⟨3, ![1, 1, 128]⟩
abbrev S80x4x128x14 : Shape := ⟨4, ![80, 4, 128, 14]⟩
abbrev S80x4x128x1 : Shape := ⟨4, ![80, 4, 128, 1]⟩
abbrev S80x4x14x128 : Shape := ⟨4, ![80, 4, 14, 128]⟩
abbrev S128x1 : Shape := ⟨2, ![128, 1]⟩
abbrev S1x1x128x1 : Shape := ⟨4, ![1, 1, 128, 1]⟩
abbrev S40x4x128x14 : Shape := ⟨4, ![40, 4, 128, 14]⟩

abbrev nBuf : Space → Nat
  | .hbm => 291
  | .vmem => 0
  | .smem => 0
  | _ => 0

abbrev hbmTy0_0 (i : Nat) : BufTy := match i % 128 with
  | 0 => ⟨S40x1x64x64, .f32⟩
  | 1 => ⟨S40x2x64x64, .f32⟩
  | 2 => ⟨S40x4x64x64, .f32⟩
  | 3 => ⟨S40x128x64x64, .f32⟩
  | 4 => ⟨S40x128x64x64, .f32⟩
  | 5 => ⟨S128x4, .f32⟩
  | 6 => ⟨S128, .f32⟩
  | 7 => ⟨S128x128, .f32⟩
  | 8 => ⟨S128, .f32⟩
  | 9 => ⟨S40x4096, .f32⟩
  | 10 => ⟨S40x4, .f32⟩
  | 11 => ⟨S40x4, .i32⟩
  | 12 => ⟨S_, .i32⟩
  | 13 => ⟨S40x4, .i32⟩
  | 14 => ⟨S40x4, .i32⟩
  | 15 => ⟨S_, .i32⟩
  | 16 => ⟨S40x4, .i32⟩
  | 17 => ⟨S40x4, .i32⟩
  | 18 => ⟨S40x1x4, .i32⟩
  | 19 => ⟨S40x1x4, .i32⟩
  | 20 => ⟨S40x2x4, .i32⟩
  | 21 => ⟨S40x2x4096, .f32⟩
  | 22 => ⟨S40x4x1, .i32⟩
  | 23 => ⟨S40x2x4, .f32⟩
  | 24 => ⟨S40x4x4096, .f32⟩
  | 25 => ⟨S40x4x1, .i32⟩
  | 26 => ⟨S40x4x4, .f32⟩
  | 27 => ⟨S40x2x4, .f32⟩
  | 28 => ⟨S40x2x4, .f32⟩
  | 29 => ⟨S_, .f32⟩
  | 30 => ⟨S40x2x4, .f32⟩
  | 31 => ⟨S40x2x4, .f32⟩
  | 32 => ⟨S40x2x4, .f32⟩
  | 33 => ⟨S40x2x4, .f32⟩
  | 34 => ⟨S40x2x4, .f32⟩
  | 35 => ⟨S_, .f32⟩
  | 36 => ⟨S40x2x4, .f32⟩
  | 37 => ⟨S40x2x4, .f32⟩
  | 38 => ⟨S40x2x4, .f32⟩
  | 39 => ⟨S_, .f32⟩
  | 40 => ⟨S40x2x4, .f32⟩
  | 41 => ⟨S40x2x4, .f32⟩
  | 42 => ⟨S40x2x4, .f32⟩
  | 43 => ⟨S_, .f32⟩
  | 44 => ⟨S40x2x4, .f32⟩
  | 45 => ⟨S40x2x4, .f32⟩
  | 46 => ⟨S40x1x4, .f32⟩
  | 47 => ⟨S40x1x4, .f32⟩
  | 48 => ⟨S_, .f32⟩
  | 49 => ⟨S40x1x4, .f32⟩
  | 50 => ⟨S40x2x4, .f32⟩
  | 51 => ⟨S40x1x4, .f32⟩
  | 52 => ⟨S40x1x4, .f32⟩
  | 53 => ⟨S_, .f32⟩
  | 54 => ⟨S40x1x4, .f32⟩
  | 55 => ⟨S40x2x4, .f32⟩
  | 56 => ⟨S80x128x64x64, .f32⟩
  | 57 => ⟨S80x128x4096, .f32⟩
  | 58 => ⟨S80x2x4, .f32⟩
  | 59 => ⟨S80x2x4, .f32⟩
  | 60 => ⟨S10, .i32⟩
  | 61 => ⟨S_, .i32⟩
  | 62 => ⟨S10, .i32⟩
  | 63 => ⟨S10, .i32⟩
  | 64 => ⟨S10, .f32⟩
  | 65 => ⟨S_, .i32⟩
  | 66 => ⟨S10, .i32⟩
  | 67 => ⟨S10, .i32⟩
  | 68 => ⟨S10, .f32⟩
  | 69 => ⟨S_, .f32⟩
  | 70 => ⟨S10, .f32⟩
  | 71 => ⟨S10, .f32⟩
  | 72 => ⟨S_, .f32⟩
  | 73 => ⟨S10, .f32⟩
  | 74 => ⟨S10, .f32⟩
  | 75 => ⟨S10, .f32⟩
  | 76 => ⟨S80x2x4x1, .f32⟩
  | 77 => ⟨S80x2x4, .f32⟩
  | 78 => ⟨S_, .f32⟩
  | 79 => ⟨S80x2x4, .f32⟩
  | 80 => ⟨S80x2x4, .f32⟩
  | 81 => ⟨S_, .f32⟩
  | 82 => ⟨S80x2x4, .f32⟩
  | 83 => ⟨S80x2x4, .f32⟩
  | 84 => ⟨S80x2x4x1, .f32⟩
  | 85 => ⟨S1x1x1x10, .f32⟩
  | 86 => ⟨S80x2x4x10, .f32⟩
  | 87 => ⟨S80x2x4x10, .f32⟩
  | 88 => ⟨S80x2x4x10, .f32⟩
  | 89 => ⟨S80x2x4x10, .f32⟩
  | 90 => ⟨S80x2x4x10, .f32⟩
  | 91 => ⟨S_, .f32⟩
  | 92 => ⟨S80x2x4x10, .f32⟩
  | 93 => ⟨S80x2x4x10, .f32⟩
  | 94 => ⟨S_, .f32⟩
  | 95 => ⟨S80x2x4x10, .f32⟩
  | 96 => ⟨S80x2x4x10, .f32⟩
  | 97 => ⟨S80x2x4x10, .f32⟩
  | 98 => ⟨S80x2x4x10, .i32⟩
  | 99 => ⟨S_, .i32⟩
  | 100 => ⟨S80x2x4x10, .i32⟩
  | 101 => ⟨S80x2x4x10, .i32⟩
  | 102 => ⟨S_, .i32⟩
  | 103 => ⟨S80x2x4x10, .i32⟩
  | 104 => ⟨S80x2x4x10, .i32⟩
  | 105 => ⟨S80x2x4x10, .f32⟩
  | 106 => ⟨S80x2x4x10, .f32⟩
  | 107 => ⟨S80x1x4x10, .i32⟩
  | 108 => ⟨S80x4x10, .i32⟩
  | 109 => ⟨S80x4x1x10, .i32⟩
  | 110 => ⟨S80x1x4x10, .i32⟩
  | 111 => ⟨S80x4x10, .i32⟩
  | 112 => ⟨S80x4x10x1, .i32⟩
  | 113 => ⟨S80x1x4x10, .i32⟩
  | 114 => ⟨S80x4x10, .i32⟩
  | 115 => ⟨S80x4x1x10, .i32⟩
  | 116 => ⟨S80x1x4x10, .i32⟩
  | 117 => ⟨S80x4x10, .i32⟩
  | 118 => ⟨S80x4x10x1, .i32⟩
  | 119 => ⟨S80x1x4x10, .f32⟩
  | 120 => ⟨S80x4x10, .f32⟩
  | 121 => ⟨S80x4x1x10, .f32⟩
  | 122 => ⟨S80x1x4x10, .f32⟩
  | 123 => ⟨S80x4x10, .f32⟩
  | 124 => ⟨S80x4x10x1, .f32⟩
  | 125 => ⟨S_, .i32⟩
  | 126 => ⟨S80x4x10x1, .i32⟩
  | 127 => ⟨S80x4x10x1, .i32⟩
  | _ => ⟨S40x1x64x64, .f32⟩

abbrev hbmTy0_1 (i : Nat) : BufTy := match i % 128 with
  | 0 => ⟨S80x4x10x10, .i32⟩
  | 1 => ⟨S80x4x10x10, .i32⟩
  | 2 => ⟨S80x4x10x10, .i32⟩
  | 3 => ⟨S80x4x10x10x1, .i32⟩
  | 4 => ⟨S80x128x4x10x10, .f32⟩
  | 5 => ⟨S_, .f32⟩
  | 6 => ⟨S80x4x10x1, .f32⟩
  | 7 => ⟨S80x4x10x1, .f32⟩
  | 8 => ⟨S_, .f32⟩
  | 9 => ⟨S80x4x1x10, .f32⟩
  | 10 => ⟨S80x4x1x10, .f32⟩
  | 11 => ⟨S80x4x10x10, .f32⟩
  | 12 => ⟨S80x4x10x10, .f32⟩
  | 13 => ⟨S80x4x10x10, .f32⟩
  | 14 => ⟨S80x1x4x10x10, .f32⟩
  | 15 => ⟨S80x128x4x10x10, .f32⟩
  | 16 => ⟨S80x128x4x10x10, .f32⟩
  | 17 => ⟨S_, .i32⟩
  | 18 => ⟨S80x4x10x1, .i32⟩
  | 19 => ⟨S80x4x10x1, .i32⟩
  | 20 => ⟨S80x4x10x10, .i32⟩
  | 21 => ⟨S80x4x10x10, .i32⟩
  | 22 => ⟨S80x4x10x10, .i32⟩
  | 23 => ⟨S80x4x10x10x1, .i32⟩
  | 24 => ⟨S80x128x4x10x10, .f32⟩
  | 25 => ⟨S_, .f32⟩
  | 26 => ⟨S80x4x10x1, .f32⟩
  | 27 => ⟨S80x4x10x1, .f32⟩
  | 28 => ⟨S80x4x10x10, .f32⟩
  | 29 => ⟨S80x4x10x10, .f32⟩
  | 30 => ⟨S80x4x10x10, .f32⟩
  | 31 => ⟨S80x1x4x10x10, .f32⟩
  | 32 => ⟨S80x128x4x10x10, .f32⟩
  | 33 => ⟨S80x128x4x10x10, .f32⟩
  | 34 => ⟨S80x128x4x10x10, .f32⟩
  | 35 => ⟨S_, .i32⟩
  | 36 => ⟨S80x4x10x1, .i32⟩
  | 37 => ⟨S80x4x10x1, .i32⟩
  | 38 => ⟨S80x4x10x10, .i32⟩
  | 39 => ⟨S80x4x10x10, .i32⟩
  | 40 => ⟨S80x4x10x10, .i32⟩
  | 41 => ⟨S80x4x10x10x1, .i32⟩
  | 42 => ⟨S80x128x4x10x10, .f32⟩
  | 43 => ⟨S_, .f32⟩
  | 44 => ⟨S80x4x1x10, .f32⟩
  | 45 => ⟨S80x4x1x10, .f32⟩
  | 46 => ⟨S80x4x10x10, .f32⟩
  | 47 => ⟨S80x4x10x10, .f32⟩
  | 48 => ⟨S80x4x10x10, .f32⟩
  | 49 => ⟨S80x1x4x10x10, .f32⟩
  | 50 => ⟨S80x128x4x10x10, .f32⟩
  | 51 => ⟨S80x128x4x10x10, .f32⟩
  | 52 => ⟨S80x128x4x10x10, .f32⟩
  | 53 => ⟨S_, .i32⟩
  | 54 => ⟨S80x4x10x1, .i32⟩
  | 55 => ⟨S80x4x10x1, .i32⟩
  | 56 => ⟨S80x4x10x10, .i32⟩
  | 57 => ⟨S80x4x10x10, .i32⟩
  | 58 => ⟨S80x4x10x10, .i32⟩
  | 59 => ⟨S80x4x10x10x1, .i32⟩
  | 60 => ⟨S80x128x4x10x10, .f32⟩
  | 61 => ⟨S80x4x10x10, .f32⟩
  | 62 => ⟨S80x4x10x10, .f32⟩
  | 63 => ⟨S80x4x10x10, .f32⟩
  | 64 => ⟨S80x1x4x10x10, .f32⟩
  | 65 => ⟨S80x128x4x10x10, .f32⟩
  | 66 => ⟨S80x128x4x10x10, .f32⟩
  | 67 => ⟨S80x128x4x10x10, .f32⟩
  | 68 => ⟨S_, .f32⟩
  | 69 => ⟨S80x2x4x10, .f32⟩
  | 70 => ⟨S80x2x4x10, .i1⟩
  | 71 => ⟨S_, .f32⟩
  | 72 => ⟨S80x2x4x10, .f32⟩
  | 73 => ⟨S80x2x4x10, .i1⟩
  | 74 => ⟨S80x2x4x10, .i1⟩
  | 75 => ⟨S80x1x4x10, .i1⟩
  | 76 => ⟨S80x4x10, .i1⟩
  | 77 => ⟨S80x4x1x10, .i1⟩
  | 78 => ⟨S80x1x4x10, .i1⟩
  | 79 => ⟨S80x4x10, .i1⟩
  | 80 => ⟨S80x4x10x1, .i1⟩
  | 81 => ⟨S80x4x10x10, .i1⟩
  | 82 => ⟨S80x4x10x10, .i1⟩
  | 83 => ⟨S80x4x10x10, .i1⟩
  | 84 => ⟨S80x1x4x10x10, .i1⟩
  | 85 => ⟨S80x128x4x10x10, .i1⟩
  | 86 => ⟨S_, .f32⟩
  | 87 => ⟨S80x128x4x10x10, .f32⟩
  | 88 => ⟨S80x128x4x10x10, .f32⟩
  | 89 => ⟨S80x128x4x5x10, .f32⟩
  | 90 => ⟨S80x128x4x5x10, .f32⟩
  | 91 => ⟨S80x128x4x5x10, .f32⟩
  | 92 => ⟨S80x128x4x5x5, .f32⟩
  | 93 => ⟨S80x128x4x5x5, .f32⟩
  | 94 => ⟨S80x128x4x5x5, .f32⟩
  | 95 => ⟨S_, .f32⟩
  | 96 => ⟨S80x128x4x5x5, .f32⟩
  | 97 => ⟨S80x128x4x5x5, .f32⟩
  | 98 => ⟨S80x128x4x25, .f32⟩
  | 99 => ⟨S25x14, .i32⟩
  | 100 => ⟨S25x14, .i32⟩
  | 101 => ⟨S_, .i32⟩
  | 102 => ⟨S25x14, .i32⟩
  | 103 => ⟨S25x14, .i32⟩
  | 104 => ⟨S_, .i32⟩
  | 105 => ⟨S25x14, .i32⟩
  | 106 => ⟨S25x14, .i32⟩
  | 107 => ⟨S_, .i32⟩
  | 108 => ⟨S25x14, .i32⟩
  | 109 => ⟨S25x14, .i32⟩
  | 110 => ⟨S_, .i32⟩
  | 111 => ⟨S25x14, .i32⟩
  | 112 => ⟨S25x14, .i32⟩
  | 113 => ⟨S_, .i32⟩
  | 114 => ⟨S25x14, .i32⟩
  | 115 => ⟨S25x14, .i32⟩
  | 116 => ⟨S25x14, .i32⟩
  | 117 => ⟨S_, .i32⟩
  | 118 => ⟨S25x14, .i32⟩
  | 119 => ⟨S25x14, .i1⟩
  | 120 => ⟨S_, .f32⟩
  | 121 => ⟨S25x14, .f32⟩
  | 122 => ⟨S_, .f32⟩
  | 123 => ⟨S25x14, .f32⟩
  | 124 => ⟨S25x14, .f32⟩
  | 125 => ⟨S25x14, .i1⟩
  | 126 => ⟨S25x14, .i1⟩
  | 127 => ⟨S25x14, .i1⟩
  | _ => ⟨S40x1x64x64, .f32⟩

abbrev hbmTy0_2 (i : Nat) : BufTy := match i % 128 with
  | 0 => ⟨S_, .f32⟩
  | 1 => ⟨S25x14, .f32⟩
  | 2 => ⟨S25x14, .f32⟩
  | 3 => ⟨S80x128x4x14, .f32⟩
  | 4 => ⟨S80x4x4, .f32⟩
  | 5 => ⟨S_, .f32⟩
  | 6 => ⟨S80x4x4, .f32⟩
  | 7 => ⟨S80x4x4, .f32⟩
  | 8 => ⟨S80x4x4, .f32⟩
  | 9 => ⟨S4x128, .f32⟩
  | 10 => ⟨S80x4x128, .f32⟩
  | 11 => ⟨S1x1x128, .f32⟩
  | 12 => ⟨S80x4x128, .f32⟩
  | 13 => ⟨S80x4x128, .f32⟩
  | 14 => ⟨S80x4x128x14, .f32⟩
  | 15 => ⟨S80x4x128x1, .f32⟩
  | 16 => ⟨S80x4x128x14, .f32⟩
  | 17 => ⟨S80x4x128x14, .f32⟩
  | 18 => ⟨S80x4x14x128, .f32⟩
  | 19 => ⟨S80x4x128x14, .f32⟩
  | 20 => ⟨S128x1, .f32⟩
  | 21 => ⟨S1x1x128x1, .f32⟩
  | 22 => ⟨S80x4x128x14, .f32⟩
  | 23 => ⟨S80x4x128x14, .f32⟩
  | 24 => ⟨S40x4x128x14, .f32⟩
  | 25 => ⟨S40x4x128x14, .f32⟩
  | 26 => ⟨S40x4x128x14, .f32⟩
  | 27 => ⟨S40x4x128x14, .f32⟩
  | 28 => ⟨S40x4x128x14, .f32⟩
  | 29 => ⟨S40x4x128x14, .f32⟩
  | 30 => ⟨S40x4x128x14, .f32⟩
  | 31 => ⟨S40x4x128x14, .f32⟩
  | 32 => ⟨S40x4x128x14, .f32⟩
  | 33 => ⟨S40x4x128x14, .f32⟩
  | 34 => ⟨S40x4x128x14, .f32⟩
  | _ => ⟨S40x1x64x64, .f32⟩

abbrev hbmTy (i : Nat) : BufTy := match i / 128 with
  | 0 => hbmTy0_0 i
  | 1 => hbmTy0_1 i
  | 2 => hbmTy0_2 i
  | _ => ⟨S40x1x64x64, .f32⟩

abbrev bufTy : (tb : Table) → Fin (tcTables nBuf tb) → BufTy
  | .hbm, ⟨i, _⟩ => hbmTy i
  | _, _ => ⟨S40x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_values : Ref sig .tc := ⟨.hbm, 10, rfl⟩
abbrev main_indices : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_16 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_17 : Ref sig .tc := ⟨.hbm, 133, rfl⟩
abbrev main_v103 : Ref sig .tc := ⟨.hbm, 134, rfl⟩
abbrev main_v104 : Ref sig .tc := ⟨.hbm, 135, rfl⟩
abbrev main_cst_18 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_c_19 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_20 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_c_21 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_22 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_c_23 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_24 : Ref sig .tc := ⟨.hbm, 196, rfl⟩
abbrev main_v159 : Ref sig .tc := ⟨.hbm, 197, rfl⟩
abbrev main_v160 : Ref sig .tc := ⟨.hbm, 198, rfl⟩
abbrev main_cst_25 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_cst_26 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_cst_27 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_c_28 : Ref sig .tc := ⟨.hbm, 229, rfl⟩
abbrev main_v188 : Ref sig .tc := ⟨.hbm, 230, rfl⟩
abbrev main_v189 : Ref sig .tc := ⟨.hbm, 231, rfl⟩
abbrev main_c_29 : Ref sig .tc := ⟨.hbm, 232, rfl⟩
abbrev main_v190 : Ref sig .tc := ⟨.hbm, 233, rfl⟩
abbrev main_v191 : Ref sig .tc := ⟨.hbm, 234, rfl⟩
abbrev main_c_30 : Ref sig .tc := ⟨.hbm, 235, rfl⟩
abbrev main_v192 : Ref sig .tc := ⟨.hbm, 236, rfl⟩
abbrev main_v193 : Ref sig .tc := ⟨.hbm, 237, rfl⟩
abbrev main_c_31 : Ref sig .tc := ⟨.hbm, 238, rfl⟩
abbrev main_v194 : Ref sig .tc := ⟨.hbm, 239, rfl⟩
abbrev main_v195 : Ref sig .tc := ⟨.hbm, 240, rfl⟩
abbrev main_c_32 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_c_33 : Ref sig .tc := ⟨.hbm, 245, rfl⟩
abbrev main_v199 : Ref sig .tc := ⟨.hbm, 246, rfl⟩
abbrev main_v200 : Ref sig .tc := ⟨.hbm, 247, rfl⟩
abbrev main_cst_34 : Ref sig .tc := ⟨.hbm, 248, rfl⟩
abbrev main_v201 : Ref sig .tc := ⟨.hbm, 249, rfl⟩
abbrev main_cst_35 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_cst_36 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_cst_37 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩

abbrev nD : Nat := 1
abbrev τ : Topo := Topo.v7x

variable {F : FTy → Type} [FloatOps F]
-- ==== Proof.Vocab.lean ====
/- The kernel's body in words: one function for each step of one region, over the vectors the kernel itself uses.
   The four regions of the printed body are the same steps again, cut differently; here each step is named once,
   and `Bridge.lean` says that the stored blocks are these. -/
module

public import proofs.«01_k».proof.Proof.Gen.KernelIdeal.Value

@[expose] public section

noncomputable section

namespace Cert.KernelIdeal.Roi

open Idealize.ShloMosaic Idealize.ShloMosaic.TcCoe Cert.KernelIdeal.Gen

variable {F : FTy → Type} [FloatOps F] [Named F]

/-! ## The peak -/

/-- The number of each cell of the 64 × 64 map, row by row. -/
def cellNo : IVec S64x64 32 :=
  addi (muli (iota .tc S64x64 32 [0] iota_S64x64_d0_w32) (broadcast S64x64 64#32)) (iota .tc S64x64 32 [1] iota_S64x64_d1_w32)

/-- The largest value of the map, in every cell. -/
def top (cur : FVec F S64x64 .f32) : FVec F S64x64 .f32 :=
  broadcastTo S64x64 (broadcast S1x1 (extractAt ![0, 0, 0] (shapeCast S1x1x1 (multiReduction .maximumf [1, 2] S1
    (shapeCast S1x64x64 cur shapeCasts_S64x64_S1x64x64) 0xFF800000#32 reduces_S1x64x64_S1 (.inl rfl) rfl)
    shapeCasts_S1_S1x1x1) inpos_S1x1x1_p0_0_0)) broadcasts_S1x1_S64x64

/-- The number of the first cell that holds the largest value. -/
def peak (cur : FVec F S64x64 .f32) : IVec S1x1 32 :=
  broadcast S1x1 (extractAt ![0, 0, 0] (shapeCast S1x1x1 (multiReductionI .minsi [1, 2] S1
    (shapeCast S1x64x64 (select (cmpf .oeq cur (top cur)) cellNo (broadcast S64x64 4096#32)) shapeCasts_S64x64_S1x64x64)
    2147483647#32 reduces_S1x64x64_S1 rfl) shapeCasts_S1_S1x1x1) inpos_S1x1x1_p0_0_0 : BitVec 32)

/-- The cell of the peak. -/
def isPeak (cur : FVec F S64x64 .f32) : IVec S64x64 1 :=
  cmpi .eq cellNo (broadcastTo S64x64 (peak cur) broadcasts_S1x1_S64x64)

/-- The map with its peak taken out. -/
def knock (cur : FVec F S64x64 .f32) : FVec F S64x64 .f32 :=
  select (isPeak cur) (broadcast S64x64 (Scalar.ofBits .f32 0xFF800000#32)) cur

/-- One at the peak, zero elsewhere. -/
def mark (cur : FVec F S64x64 .f32) : FVec F S64x64 .f32 :=
  sitofp .f32 (extui 32 (isPeak cur) natLt_1_32)

/-- The row of the peak. -/
def row (i : IVec S1x1 32) : FVec F S1x1 .f32 :=
  sitofp .f32 (select
    (andi
      (cmpi .ne (subi (extui 32 (cmpi .sgt i (broadcast S1x1 0#32)) natLt_1_32)
          (extui 32 (cmpi .slt i (broadcast S1x1 0#32)) natLt_1_32))
        (broadcast S1x1 (Scalar.subi (Scalar.extui (Scalar.cmpi .sgt 64#32 0#32)) (Scalar.extui (Scalar.cmpi .slt 64#32 0#32)))))
      (cmpi .ne (remsi i (broadcast S1x1 64#32)) (broadcast S1x1 0#32)))
    (subi (divsi i (broadcast S1x1 64#32)) (broadcast S1x1 1#32)) (divsi i (broadcast S1x1 64#32)))

/-- What the kernel divides by to find a column: 64 (never zero). -/
def side : BitVec 32 := Scalar.select (Scalar.cmpi .eq 64#32 0#32) 1#32 64#32

/-- The column of the peak. -/
def col (i : IVec S1x1 32) : FVec F S1x1 .f32 :=
  sitofp .f32 (select
    (andi (xori (cmpi .slt (remsi i (broadcast S1x1 side)) (broadcast S1x1 0#32))
        (broadcastTo S1x1 (broadcast S1x1 (Scalar.cmpi .slt side 0#32)) broadcasts_S1x1_S1x1))
      (cmpi .ne (remsi i (broadcast S1x1 side)) (broadcast S1x1 0#32)))
    (addi (remsi i (broadcast S1x1 side)) (broadcast S1x1 side)) (remsi i (broadcast S1x1 side)))

/-- The value of one map at the peak, read as the sum of the map times the mark. -/
def pick (sel : FVec F S64x64 .f32) (w : Vec F S1x1x64x64 .f32) : FVec F S1x1 .f32 :=
  broadcast S1x1 (extractAt ![0, 0, 0] (shapeCast S1x1x1 (multiReduction .add [1, 2] S1
    (shapeCast S1x64x64 (mulf (shapeCast S64x64 w shapeCasts_S1x1x64x64_S64x64) sel) shapeCasts_S64x64_S1x64x64)
    0x00000000#32 reduces_S1x64x64_S1 (.inl rfl) rfl) shapeCasts_S1_S1x1x1) inpos_S1x1x1_p0_0_0)

/-! ## The box -/

/-- A centre: (cell + offset) · 4. -/
def centre (p o : FVec F S1x1 .f32) : FVec F S1x1 .f32 :=
  mulf (addf p o) (broadcast S1x1 (Scalar.ofBits .f32 0x40800000#32))

/-- The near side of a box, in cells: (centre − width / 2) / 4. -/
def near (c w : FVec F S1x1 .f32) : FVec F S1x1 .f32 :=
  mulf (subf c (divf w (broadcast S1x1 (Scalar.ofBits .f32 0x40000000#32)))) (broadcast S1x1 (Scalar.ofBits .f32 0x3E800000#32))

/-- The far side of a box, in cells: (centre + width / 2) / 4. -/
def far (c w : FVec F S1x1 .f32) : FVec F S1x1 .f32 :=
  mulf (addf c (divf w (broadcast S1x1 (Scalar.ofBits .f32 0x40000000#32)))) (broadcast S1x1 (Scalar.ofBits .f32 0x3E800000#32))

/-- The step of the sampling: a fifth of the side, the side at least one. -/
def step (lo hi : FVec F S1x1 .f32) : FVec F S1x1 .f32 :=
  divf (maximumf (subf hi lo) (broadcast S1x1 (Scalar.ofBits .f32 0x3F800000#32))) (broadcast S1x1 (Scalar.ofBits .f32 0x40A00000#32))

/-- The near and the far side in one direction: `p` the peak's cell, `o` the offset map, `a` and `b` the two size maps. -/
def lo (p : FVec F S1x1 .f32) (sel : FVec F S64x64 .f32) (o a b : Vec F S1x1x64x64 .f32) : FVec F S1x1 .f32 :=
  near (centre p (pick sel o)) (addf (pick sel a) (pick sel b))
@[inherit_doc lo] def hi (p : FVec F S1x1 .f32) (sel : FVec F S64x64 .f32) (o a b : Vec F S1x1x64x64 .f32) : FVec F S1x1 .f32 :=
  far (centre p (pick sel o)) (addf (pick sel a) (pick sel b))

/-! ## The sample points -/

/-- The place of a sample: near side + offset · step. -/
def place (s : Shape) (offs l d : FVec F s .f32) : FVec F s .f32 := addf l (mulf offs d)

/-- The place kept within the map. -/
def kept (s : Shape) (v : FVec F s .f32) : FVec F s .f32 :=
  minimumf (broadcast s (Scalar.ofBits .f32 0x427C0000#32)) (maximumf (broadcast s (Scalar.ofBits .f32 0x00000000#32)) v)

/-- Whether a place is near enough to the map to count. -/
def inside (s : Shape) (v : FVec F s .f32) : IVec s 1 :=
  andi (cmpf .ogt v (broadcast s (Scalar.ofBits .f32 0xBF800000#32))) (cmpf .olt v (broadcast s (Scalar.ofBits .f32 0x42800000#32)))

/-- The part of the kept place after the point. -/
def frac (s : Shape) (v : FVec F s .f32) : FVec F s .f32 := subf (kept s v) (floor (kept s v))

/-- Five rows of the map's width, one where the column is the row's number. -/
def hot (c : FVec F S5x1 .f32) : FVec F S5x64 .f32 :=
  sitofp .f32 (extui 32 (cmpf .oeq (sitofp .f32 (iota .tc S5x64 32 [1] iota_S5x64_d1_w32)) (broadcastTo S5x64 c broadcasts_S5x1_S5x64)) natLt_1_32)

/-- The cell below a place, and the cell above it. -/
def below (v : FVec F S5x1 .f32) : FVec F S5x1 .f32 := floor (kept S5x1 v)
@[inherit_doc below] def above (v : FVec F S5x1 .f32) : FVec F S5x1 .f32 :=
  minimumf (addf (below v) (broadcast S5x1 (Scalar.ofBits .f32 0x3F800000#32))) (broadcast S5x1 (Scalar.ofBits .f32 0x427C0000#32))

/-- The offsets of the five bins' samples, standing upright in a matrix: `w` the word of the offset in the bin. -/
def offC (w : BitVec 32) : FVec F S5x1 .f32 :=
  addf (sitofp .f32 (iota .tc S5x1 32 [0] iota_S5x1_d0_w32)) (broadcast S5x1 (Scalar.ofBits .f32 w))
/-- The same lying along the second axis, and -/
def offX (w : BitVec 32) : FVec F S1x5x1 .f32 :=
  addf (sitofp .f32 (iota .tc S1x5x1 32 [1] iota_S1x5x1_d1_w32)) (broadcast S1x5x1 (Scalar.ofBits .f32 w))
/-- along the first. -/
def offY (w : BitVec 32) : FVec F S5x1x1 .f32 :=
  addf (sitofp .f32 (iota .tc S5x1x1 32 [0] iota_S5x1x1_d0_w32)) (broadcast S5x1x1 (Scalar.ofBits .f32 w))

/-- The places of the five samples with offset `w` in their bins, as a column. -/
def placeC (w : BitVec 32) (l d : FVec F S1x1 .f32) : FVec F S5x1 .f32 :=
  place S5x1 (offC w) (broadcastTo S5x1 l broadcasts_S1x1_S5x1) (broadcastTo S5x1 d broadcasts_S1x1_S5x1)

/-- The rows that choose a region's 20 cells in one direction: below (offset 1/4, offset 3/4), above (the same). -/
def grid (l d : FVec F S1x1 .f32) : FVec F S20x64 .f32 :=
  concatenate S20x64 0 [⟨S5x64, hot (below (placeC 0x3E800000#32 l d))⟩, ⟨S5x64, hot (below (placeC 0x3F400000#32 l d))⟩,
    ⟨S5x64, hot (above (placeC 0x3E800000#32 l d))⟩, ⟨S5x64, hot (above (placeC 0x3F400000#32 l d))⟩]
    concatenates_S5x64_S5x64_S5x64_S5x64_S20x64_d0

/-- The places along the second axis, -/
def placeX (w : BitVec 32) (l d : FVec F S1x1 .f32) : FVec F S1x5x1 .f32 :=
  place S1x5x1 (offX w) (broadcastTo S1x5x1 (shapeCast S1x1x1 l shapeCasts_S1x1_S1x1x1) broadcasts_S1x1x1_S1x5x1)
    (broadcastTo S1x5x1 (shapeCast S1x1x1 d shapeCasts_S1x1_S1x1x1) broadcasts_S1x1x1_S1x5x1)
/-- and along the first. -/
def placeY (w : BitVec 32) (l d : FVec F S1x1 .f32) : FVec F S5x1x1 .f32 :=
  place S5x1x1 (offY w) (broadcastTo S5x1x1 (shapeCast S1x1x1 l shapeCasts_S1x1_S1x1x1) broadcasts_S1x1x1_S5x1x1)
    (broadcastTo S5x1x1 (shapeCast S1x1x1 d shapeCasts_S1x1_S1x1x1) broadcasts_S1x1x1_S5x1x1)
/-- The places down the full height of the map, which the second branch takes. -/
def placeV (w : BitVec 32) : FVec F S5x1x1 .f32 :=
  place S5x1x1 (offY w) (broadcast S5x1x1 (Scalar.ofBits .f32 0x00000000#32)) (broadcast S5x1x1 (Named.named κ "bin_height" 0x414CCCCD#32))

/-- Five rows of width 20, one at column `4 i + k` of row `i`. -/
def hotV (k : BitVec 32) : FVec F S5x20 .f32 :=
  sitofp .f32 (extui 32 (cmpi .eq (iota .tc S5x20 32 [1] iota_S5x20_d1_w32) (broadcastTo S5x20
    (addi (muli (iota .tc S5x1 32 [0] iota_S5x1_d0_w32) (broadcast S5x1 4#32)) (broadcast S5x1 k)) broadcasts_S5x1_S5x20)) natLt_1_32)
/-- The rows that choose from the 20 gathered rows. -/
def gridV : FVec F S20x20 .f32 :=
  concatenate S20x20 0 [⟨S5x20, hotV 0#32⟩, ⟨S5x20, hotV 2#32⟩, ⟨S5x20, hotV 1#32⟩, ⟨S5x20, hotV 3#32⟩]
    concatenates_S5x20_S5x20_S5x20_S5x20_S20x20_d0

/-! ## The bilinear mean -/

/-- One bilinear sum: the four corners' values, the parts after the point and the two tests. -/
def bilin (a b c d : FVec F S5x5x128 .f32) (ly : FVec F S5x1x1 .f32) (lx : FVec F S1x5x1 .f32) (vy : IVec S5x1x1 1)
    (vx : IVec S1x5x1 1) : FVec F S5x5x128 .f32 :=
  have one_y : FVec F S5x1x1 .f32 := subf (broadcast S5x1x1 (Scalar.ofBits .f32 0x3F800000#32)) ly
  have one_x : FVec F S1x5x1 .f32 := subf (broadcast S1x5x1 (Scalar.ofBits .f32 0x3F800000#32)) lx
  have weigh (u : FVec F S5x1x1 .f32) (v : FVec F S1x5x1 .f32) : FVec F S5x5x128 .f32 :=
    broadcastTo S5x5x128 (mulf (broadcastTo S5x5x1 u broadcasts_S5x1x1_S5x5x1) (broadcastTo S5x5x1 v broadcasts_S1x5x1_S5x5x1)) broadcasts_S5x5x1_S5x5x128
  select (broadcastTo S5x5x128 (shapeCast S5x5x1 (andi (broadcastTo S5x5x1 vy broadcasts_S5x1x1_S5x5x1)
      (broadcastTo S5x5x1 vx broadcasts_S1x5x1_S5x5x1)) shapeCasts_S5x5x1_S5x5x1) broadcasts_S5x5x1_S5x5x128)
    (addf (addf (addf (mulf a (weigh one_y one_x)) (mulf b (weigh one_y lx))) (mulf c (weigh ly one_x))) (mulf d (weigh ly lx)))
    (broadcast S5x5x128 (Scalar.ofBits .f32 0x00000000#32))

/-- The mean of the four samples of every bin: `y w` and `x w` the places for the offset `w`. -/
def mean (u : FVec F S20x20x128 .f32) (y : BitVec 32 → FVec F S5x1x1 .f32) (x : BitVec 32 → FVec F S1x5x1 .f32) : FVec F S5x5x128 .f32 :=
  divf
    (addf
      (addf
        (bilin (extractStridedSlice S5x5x128 ![0, 0, 0] u slices_S20x20x128_o0_0_0_S5x5x128)
          (extractStridedSlice S5x5x128 ![0, 10, 0] u slices_S20x20x128_o0_10_0_S5x5x128)
          (extractStridedSlice S5x5x128 ![10, 0, 0] u slices_S20x20x128_o10_0_0_S5x5x128)
          (extractStridedSlice S5x5x128 ![10, 10, 0] u slices_S20x20x128_o10_10_0_S5x5x128)
          (frac _ (y 0x3E800000#32)) (frac _ (x 0x3E800000#32)) (inside _ (y 0x3E800000#32)) (inside _ (x 0x3E800000#32)))
        (bilin (extractStridedSlice S5x5x128 ![5, 0, 0] u slices_S20x20x128_o5_0_0_S5x5x128)
          (extractStridedSlice S5x5x128 ![5, 10, 0] u slices_S20x20x128_o5_10_0_S5x5x128)
          (extractStridedSlice S5x5x128 ![15, 0, 0] u slices_S20x20x128_o15_0_0_S5x5x128)
          (extractStridedSlice S5x5x128 ![15, 10, 0] u slices_S20x20x128_o15_10_0_S5x5x128)
          (frac _ (y 0x3F400000#32)) (frac _ (x 0x3E800000#32)) (inside _ (y 0x3F400000#32)) (inside _ (x 0x3E800000#32))))
      (addf
        (bilin (extractStridedSlice S5x5x128 ![0, 5, 0] u slices_S20x20x128_o0_5_0_S5x5x128)
          (extractStridedSlice S5x5x128 ![0, 15, 0] u slices_S20x20x128_o0_15_0_S5x5x128)
          (extractStridedSlice S5x5x128 ![10, 5, 0] u slices_S20x20x128_o10_5_0_S5x5x128)
          (extractStridedSlice S5x5x128 ![10, 15, 0] u slices_S20x20x128_o10_15_0_S5x5x128)
          (frac _ (y 0x3E800000#32)) (frac _ (x 0x3F400000#32)) (inside _ (y 0x3E800000#32)) (inside _ (x 0x3F400000#32)))
        (bilin (extractStridedSlice S5x5x128 ![5, 5, 0] u slices_S20x20x128_o5_5_0_S5x5x128)
          (extractStridedSlice S5x5x128 ![5, 15, 0] u slices_S20x20x128_o5_15_0_S5x5x128)
          (extractStridedSlice S5x5x128 ![15, 5, 0] u slices_S20x20x128_o15_5_0_S5x5x128)
          (extractStridedSlice S5x5x128 ![15, 15, 0] u slices_S20x20x128_o15_15_0_S5x5x128)
          (frac _ (y 0x3F400000#32)) (frac _ (x 0x3F400000#32)) (inside _ (y 0x3F400000#32)) (inside _ (x 0x3F400000#32)))))
    (broadcast S5x5x128 (Scalar.ofBits .f32 0x40800000#32))

/-! ## The head -/

/-- The 25 bins pooled to 14. -/
def pooled (v : FVec F S5x5x128 .f32) (p : Vec F S25x14 .f32) : FVec F S128x14 .f32 :=
  matmul dot_S25x128_S25x14_S128x14_0_0_1_1_n_n none (shapeCast S25x128 v shapeCasts_S5x5x128_S25x128) p (constant S128x14 .f32 0x00000000#32)

/-- One of the box's sides over 64. -/
def over64 (v : FVec F S1x1 .f32) : FVec F S1x1 .f32 := divf v (broadcast S1x1 (Scalar.ofBits .f32 0x42800000#32))

/-- Four numbers side by side. -/
def four (a b c d : FVec F S1x1 .f32) : FVec F S1x4 .f32 :=
  concatenate S1x4 1 [⟨S1x1, a⟩, ⟨S1x1, b⟩, ⟨S1x1, c⟩, ⟨S1x1, d⟩] concatenates_S1x1_S1x1_S1x1_S1x1_S1x4_d1

/-- The first branch's box over 64, -/
def boxH (x1 y1 x2 y2 : FVec F S1x1 .f32) : FVec F S1x4 .f32 := four (over64 x1) (over64 y1) (over64 x2) (over64 y2)
/-- and the second's, whose height is the whole map. -/
def boxV (x1 x2 : FVec F S1x1 .f32) : FVec F S1x4 .f32 :=
  four (over64 x1) (mulf x1 (broadcast S1x1 (Scalar.ofBits .f32 0x00000000#32))) (over64 x2)
    (addf (mulf x1 (broadcast S1x1 (Scalar.ofBits .f32 0x00000000#32))) (broadcast S1x1 (Scalar.ofBits .f32 0x3F800000#32)))

/-- A branch's result: the pooled features plus the box's embedding, projected. -/
def headOf (ewt : FVec F S4x128 .f32) (eb : FVec F S1x128 .f32) (pw : Vec F S128x128 .f32) (pb : FVec F S128x1 .f32)
    (af : FVec F S128x14 .f32) (box : FVec F S1x4 .f32) : FVec F S128x14 .f32 :=
  addf
    (matmul dot_S128x128_S128x14_S128x14_1_0_0_1_n_n none pw
      (addf af (broadcastTo S128x14 (transpose S128x1 [1, 0]
        (addf (matmul dot_S1x4_S4x128_S1x128_1_0_0_1_n_n none box ewt (constant S1x128 .f32 0x00000000#32)) eb)
        transposes_S1x128_p1_0_S128x1) broadcasts_S128x1_S128x14))
      (constant S128x14 .f32 0x00000000#32))
    (broadcastTo S128x14 pb broadcasts_S128x1_S128x14)

/-- The two branches' results, each weighed with its exponential over their sum. -/
def blend (g h : FVec F S128x14 .f32) : FVec F S1x1x128x14 .f32 :=
  shapeCast S1x1x128x14 (addf (mulf g (divf (exp g) (addf g h))) (mulf h (divf (exp h) (addf g h)))) shapeCasts_S128x14_S1x1x128x14

/-! ## The block -/

section
variable (x0 : Vec F S1x1x64x64 .f32) (x1 : Vec F S1x2x64x64 .f32) (x2 : Vec F S1x4x64x64 .f32) (x3 : Vec F S1x64x64x128 .f32)
  (x4 : Vec F S1x20x64x128 .f32) (x5 : Vec F S4x128 .f32) (x6 : Vec F S1x128 .f32) (x7 : Vec F S128x128 .f32)
  (x8 : Vec F S128x1 .f32) (x9 : Vec F S25x14 .f32)

/-- The map before the search for peak `r`. -/
def cur : Nat → FVec F S64x64 .f32
  | 0 => shapeCast S64x64 (View.ld x0 r0_0) shapeCasts_S1x1x64x64_S64x64
  | r + 1 => knock (cur r)

/-- The near and far sides of region `r`'s box. -/
def X1 (r : Nat) : FVec F S1x1 .f32 := lo (col (peak (cur x0 r))) (mark (cur x0 r)) (View.ld x1 r0_6) (View.ld x2 r0_8) (View.ld x2 r0_10)
@[inherit_doc X1] def Y1 (r : Nat) : FVec F S1x1 .f32 := lo (row (peak (cur x0 r))) (mark (cur x0 r)) (View.ld x1 r0_7) (View.ld x2 r0_9) (View.ld x2 r0_11)
@[inherit_doc X1] def X2 (r : Nat) : FVec F S1x1 .f32 := hi (col (peak (cur x0 r))) (mark (cur x0 r)) (View.ld x1 r0_6) (View.ld x2 r0_8) (View.ld x2 r0_10)
@[inherit_doc X1] def Y2 (r : Nat) : FVec F S1x1 .f32 := hi (row (peak (cur x0 r))) (mark (cur x0 r)) (View.ld x1 r0_7) (View.ld x2 r0_9) (View.ld x2 r0_11)

/-- The sampling steps of region `r`. -/
def DX (r : Nat) : FVec F S1x1 .f32 := step (X1 x0 x1 x2 r) (X2 x0 x1 x2 r)
@[inherit_doc DX] def DY (r : Nat) : FVec F S1x1 .f32 := step (Y1 x0 x1 x2 r) (Y2 x0 x1 x2 r)

/-- All regions' column choosers. -/
def grids : FVec F S80x64 .f32 :=
  concatenate S80x64 0 [⟨S20x64, grid (X1 x0 x1 x2 0) (DX x0 x1 x2 0)⟩, ⟨S20x64, grid (X1 x0 x1 x2 1) (DX x0 x1 x2 1)⟩,
    ⟨S20x64, grid (X1 x0 x1 x2 2) (DX x0 x1 x2 2)⟩, ⟨S20x64, grid (X1 x0 x1 x2 3) (DX x0 x1 x2 3)⟩]
    concatenates_S20x64_S20x64_S20x64_S20x64_S80x64_d0

/-- The first features with the columns chosen, -/
def colsH : FVec F S80x64x128 .f32 :=
  matmul dot_S80x64_S64x64x128_S80x64x128_1_1_0_02_n_n (some .fp32) (grids x0 x1 x2)
    (shapeCast S64x64x128 (View.ld x3 r0_12) shapeCasts_S1x64x64x128_S64x64x128) (constant S80x64x128 .f32 0x00000000#32)
/-- and the second's. -/
def colsV : FVec F S80x20x128 .f32 :=
  matmul dot_S80x64_S20x64x128_S80x20x128_1_1_0_02_n_n (some .fp32) (grids x0 x1 x2)
    (shapeCast S20x64x128 (View.ld x4 r0_13) shapeCasts_S1x20x64x128_S20x64x128) (constant S80x20x128 .f32 0x00000000#32)

/-- A region's chosen cells: rows chosen from its part of the chosen columns. -/
def cellsH (r : Nat) (h : S80x64x128.Slices ![20 * r, 0, 0] S20x64x128) : FVec F S20x20x128 .f32 :=
  matmul dot_S20x64_S20x64x128_S20x20x128_1_1_0_02_n_n (some .fp32) (grid (Y1 x0 x1 x2 r) (DY x0 x1 x2 r))
    (extractStridedSlice S20x64x128 ![20 * r, 0, 0] (colsH x0 x1 x2 x3) h) (constant S20x20x128 .f32 0x00000000#32)
@[inherit_doc cellsH] def cellsV (r : Nat) (h : S80x20x128.Slices ![20 * r, 0, 0] S20x20x128) : FVec F S20x20x128 .f32 :=
  matmul dot_S20x20_S20x20x128_S20x20x128_1_1_0_02_n_n (some .fp32) gridV
    (extractStridedSlice S20x20x128 ![20 * r, 0, 0] (colsV x0 x1 x2 x4) h) (constant S20x20x128 .f32 0x00000000#32)

/-- A region's two branches. -/
def gH (r : Nat) (h : S80x64x128.Slices ![20 * r, 0, 0] S20x64x128) : FVec F S128x14 .f32 :=
  headOf (shapeCast S4x128 (View.ld x5 r0_1) shapeCasts_S4x128_S4x128) (shapeCast S1x128 (View.ld x6 r0_2) shapeCasts_S1x128_S1x128)
    (View.ld x7 r0_3) (shapeCast S128x1 (View.ld x8 r0_4) shapeCasts_S128x1_S128x1)
    (pooled (mean (cellsH x0 x1 x2 x3 r h) (fun w => placeY w (Y1 x0 x1 x2 r) (DY x0 x1 x2 r))
      (fun w => placeX w (X1 x0 x1 x2 r) (DX x0 x1 x2 r))) (View.ld x9 r0_5))
    (boxH (X1 x0 x1 x2 r) (Y1 x0 x1 x2 r) (X2 x0 x1 x2 r) (Y2 x0 x1 x2 r))
@[inherit_doc gH] def gV (r : Nat) (h : S80x20x128.Slices ![20 * r, 0, 0] S20x20x128) : FVec F S128x14 .f32 :=
  headOf (shapeCast S4x128 (View.ld x5 r0_1) shapeCasts_S4x128_S4x128) (shapeCast S1x128 (View.ld x6 r0_2) shapeCasts_S1x128_S1x128)
    (View.ld x7 r0_3) (shapeCast S128x1 (View.ld x8 r0_4) shapeCasts_S128x1_S128x1)
    (pooled (mean (cellsV x0 x1 x2 x4 r h) placeV
      (fun w => placeX w (X1 x0 x1 x2 r) (DX x0 x1 x2 r))) (View.ld x9 r0_5))
    (boxV (X1 x0 x1 x2 r) (X2 x0 x1 x2 r))

/-- What the body stores for region `r`. -/
def piece (r : Nat) (h : S80x64x128.Slices ![20 * r, 0, 0] S20x64x128) (h' : S80x20x128.Slices ![20 * r, 0, 0] S20x20x128) : FVec F S1x1x128x14 .f32 :=
  blend (gH x0 x1 x2 x3 x5 x6 x7 x8 x9 r h) (gV x0 x1 x2 x4 x5 x6 x7 x8 x9 r h')
end

end Cert.KernelIdeal.Roi

end

end
-- ==== Proof.Spec.lean ====
/- What one region of one frame is, in plain numbers: the samples, the bilinear sums, the pooling, the box's embedding, the
   projection, the blend of the two branches; and the search for the peaks. -/
module

public import Idealize.ShloMosaic.Lib.Pointwise

@[expose] public section

noncomputable section

namespace Cert.Spec

open Idealize.ShloMosaic
open scoped BigOperators

/-- The number a 32-bit word denotes. -/
abbrev word (w : BitVec 32) : EReal := Ideal.ofBits .f32 w

/-! ## One coordinate -/

/-- A coordinate kept within 0 … 63, -/
def kept (v : EReal) : EReal := min (word 0x427C0000#32) (max 0 v)
/-- rounded down, -/
def down (v : EReal) : EReal := Ideal.liftRound Int.floor (kept v)
/-- its part after the point, -/
def frac (v : EReal) : EReal := kept v - down v
/-- and whether it lies between -1 and 64. -/
def inside (v : EReal) : BitVec 1 :=
  IntOp.andi (BitVec.ofBool (decide (word 0xBF800000#32 < v))) (BitVec.ofBool (decide (v < word 0x42800000#32)))

/-- The word of 63. -/
theorem word_63 : word 0x427C0000#32 = ((63 : ℝ) : EReal) := by
  simp [word, Ideal.ofBits, Ideal.ieee, -EReal.coe_mul]; norm_num

/-- A coordinate kept within 0 … 63 is a real number there. -/
theorem kept_real (v : EReal) : ∃ r : ℝ, kept v = (r : EReal) ∧ 0 ≤ r ∧ r ≤ 63 := by
  have h63 : (0 : EReal) ≤ ((63 : ℝ) : EReal) := by exact_mod_cast (by norm_num : (0 : ℝ) ≤ 63)
  have lo : 0 ≤ kept v := by
    rw [kept, word_63]; exact le_min h63 (le_max_left _ _)
  have hi : kept v ≤ ((63 : ℝ) : EReal) := by rw [kept, word_63]; exact min_le_left _ _
  have hb : kept v ≠ ⊥ := fun h => by rw [h] at lo; exact absurd lo (by simp)
  have ht : kept v ≠ ⊤ := fun h => by rw [h] at hi; exact absurd hi (by simp)
  refine ⟨(kept v).toReal, (EReal.coe_toReal ht hb).symm, ?_, ?_⟩
  · rw [← EReal.coe_toReal ht hb] at lo; exact_mod_cast lo
  · rw [← EReal.coe_toReal ht hb] at hi; exact_mod_cast hi

/-- A kept coordinate rounded down lies in 0 … 63. -/
theorem floor_kept (v : EReal) : 0 ≤ ⌊(kept v).toReal⌋ ∧ ⌊(kept v).toReal⌋ ≤ 63 := by
  obtain ⟨r, hr, h0, h1⟩ := kept_real v
  rw [hr, EReal.toReal_coe]
  exact ⟨Int.floor_nonneg.mpr h0, by have := Int.floor_le_floor h1; rwa [show (63 : ℝ) = ((63 : ℤ) : ℝ) by norm_num, Int.floor_intCast] at this⟩

/-- The cell a coordinate falls in, -/
def cell (v : EReal) : Fin 64 := ⟨⌊(kept v).toReal⌋.toNat, by have := floor_kept v; omega⟩
/-- and the next, which stops at the last. -/
def cellUp (v : EReal) : Fin 64 := ⟨min ((cell v).val + 1) 63, by omega⟩

/-- Rounding down gives the cell's number. -/
theorem down_eq (v : EReal) : down v = (((cell v).val : ℝ) : EReal) := by
  obtain ⟨r, hr, h0, h1⟩ := kept_real v
  have hf := floor_kept v
  rw [down, hr, Ideal.liftRound_coe]
  congr 1
  have : ((cell v).val : ℤ) = ⌊r⌋ := by
    simp only [cell]; rw [hr, EReal.toReal_coe] at hf ⊢; omega
  rw [← this]; push_cast; rfl

/-- One more than that, at most 63, is the next cell's number. -/
theorem up_eq (v : EReal) : min (down v + 1) (word 0x427C0000#32) = (((cellUp v).val : ℝ) : EReal) := by
  rw [down_eq, word_63, show (1 : EReal) = ((1 : ℝ) : EReal) from rfl, ← EReal.coe_add, ← EReal.coe_strictMono.monotone.map_min]
  congr 1
  simp only [cellUp]; push_cast; rfl

/-! ## One sample, one bin -/

/-- The bilinear sum of a picture at a point; zero where the point lies outside. -/
def sample (f : Fin 64 → Fin 64 → EReal) (y x : EReal) : EReal :=
  Scalar.select (IntOp.andi (inside y) (inside x))
    (f (cell y) (cell x) * ((1 - frac y) * (1 - frac x)) + f (cell y) (cellUp x) * ((1 - frac y) * frac x)
      + f (cellUp y) (cell x) * (frac y * (1 - frac x)) + f (cellUp y) (cellUp x) * (frac y * frac x)) 0

/-- The coordinate of the sample at offset `w` in bin `i`, from `l` by steps of `d`. -/
def at1 (l d : EReal) (w : BitVec 32) (i : Fin 5) : EReal := l + ((((i.val : ℝ)) : EReal) + word w) * d

/-- The mean of the four samples of a bin; `y` and `x` the coordinates by offset and bin. -/
def mean (f : Fin 64 → Fin 64 → EReal) (y x : BitVec 32 → Fin 5 → EReal) (i j : Fin 5) : EReal :=
  Ideal.div
    ((sample f (y 0x3E800000#32 i) (x 0x3E800000#32 j) + sample f (y 0x3F400000#32 i) (x 0x3E800000#32 j))
      + (sample f (y 0x3E800000#32 i) (x 0x3F400000#32 j) + sample f (y 0x3F400000#32 i) (x 0x3F400000#32 j)))
    (word 0x40800000#32)

/-! ## The head -/

/-- The pooling table: column `t` averages rows 25 t / 14 up to (25 t + 38) / 14. -/
def pool (b : Fin 25) (t : Fin 14) : EReal :=
  if t.val * 25 / 14 ≤ b.val ∧ b.val < (t.val * 25 + 38) / 14 then
    (if (t.val * 25 + 38) / 14 - t.val * 25 / 14 = 3 then word 0x3EAAAAAB#32 else word 0x3F000000#32) else 0

/-- The 25 bins of one channel pooled to 14. -/
def pooled (g : Fin 5 → Fin 5 → EReal) (t : Fin 14) : EReal :=
  ∑ b : Fin 25, g ⟨b.val / 5, by omega⟩ ⟨b.val % 5, by omega⟩ * pool b t

/-- A branch's result at output channel `o`, place `t`: the pooled features plus the box's embedding, projected. -/
def head (ew : Fin 128 → Fin 4 → EReal) (eb : Fin 128 → EReal) (pw : Fin 128 → Fin 128 → EReal) (pb : Fin 128 → EReal)
    (af : Fin 128 → Fin 14 → EReal) (box : Fin 4 → EReal) (o : Fin 128) (t : Fin 14) : EReal :=
  (∑ c, pw o c * (af c t + (∑ k, box k * ew c k + eb c))) + pb o

/-- Two branches' results, each weighed with its exponential over their sum. -/
def blend (g h : EReal) : EReal := g * Ideal.div (Ideal.exp g) (g + h) + h * Ideal.div (Ideal.exp h) (g + h)

/-! ## The box -/

/-- The near side of a box in one direction, from the peak's cell number, its offset and the box's two half sizes; -/
def near (p o a b : EReal) : EReal :=
  ((p + o) * word 0x40800000#32 - Ideal.div (a + b) (word 0x40000000#32)) * word 0x3E800000#32
/-- the far side. -/
def far (p o a b : EReal) : EReal :=
  ((p + o) * word 0x40800000#32 + Ideal.div (a + b) (word 0x40000000#32)) * word 0x3E800000#32
/-- A fifth of a box's side, the side at least one. -/
def step (l h : EReal) : EReal := Ideal.div (max (h - l) 1) (word 0x40A00000#32)

/-- The row and the column of a cell number. -/
def rowOf (p : Fin 4096) : Fin 64 := ⟨p.val / 64, by omega⟩
@[inherit_doc rowOf] def colOf (p : Fin 4096) : Fin 64 := ⟨p.val % 64, by omega⟩
/-- The number of a cell. -/
def cellOf (y x : Fin 64) : Fin 4096 := ⟨64 * y.val + x.val, by omega⟩

/-- A cell is given by its row and column; -/
theorem cellOf_rowOf_colOf (p : Fin 4096) : cellOf (rowOf p) (colOf p) = p := by
  apply Fin.ext; simp only [cellOf, rowOf, colOf]; omega
/-- the row -/
theorem rowOf_cellOf (y x : Fin 64) : rowOf (cellOf y x) = y := by
  apply Fin.ext; simp only [cellOf, rowOf]; omega
/-- and the column of the cell at a row and column. -/
theorem colOf_cellOf (y x : Fin 64) : colOf (cellOf y x) = x := by
  apply Fin.ext; simp only [cellOf, colOf]; omega

/-- One frame's data. -/
structure Data where
  /-- the heat map, flat -/
  hm : Fin 4096 → EReal
  /-- the offsets -/
  off : Fin 2 → Fin 64 → Fin 64 → EReal
  /-- the sizes -/
  bs : Fin 4 → Fin 64 → Fin 64 → EReal
  /-- the two feature maps -/
  fh : Fin 128 → Fin 64 → Fin 64 → EReal
  /-- the two feature maps -/
  fv : Fin 128 → Fin 64 → Fin 64 → EReal
  /-- the embedding -/
  ew : Fin 128 → Fin 4 → EReal
  /-- the embedding's bias -/
  eb : Fin 128 → EReal
  /-- the projection -/
  pw : Fin 128 → Fin 128 → EReal
  /-- the projection's bias -/
  pb : Fin 128 → EReal

namespace Data
variable (D : Data)

/-- The sides of the box at cell `p`. -/
def x1 (p : Fin 4096) : EReal := near (((colOf p).val : ℝ) : EReal) (D.off 0 (rowOf p) (colOf p)) (D.bs 0 (rowOf p) (colOf p)) (D.bs 2 (rowOf p) (colOf p))
@[inherit_doc x1] def y1 (p : Fin 4096) : EReal := near (((rowOf p).val : ℝ) : EReal) (D.off 1 (rowOf p) (colOf p)) (D.bs 1 (rowOf p) (colOf p)) (D.bs 3 (rowOf p) (colOf p))
@[inherit_doc x1] def x2 (p : Fin 4096) : EReal := far (((colOf p).val : ℝ) : EReal) (D.off 0 (rowOf p) (colOf p)) (D.bs 0 (rowOf p) (colOf p)) (D.bs 2 (rowOf p) (colOf p))
@[inherit_doc x1] def y2 (p : Fin 4096) : EReal := far (((rowOf p).val : ℝ) : EReal) (D.off 1 (rowOf p) (colOf p)) (D.bs 1 (rowOf p) (colOf p)) (D.bs 3 (rowOf p) (colOf p))

/-- The sampled columns, the sampled rows, -/
def xs (p : Fin 4096) : BitVec 32 → Fin 5 → EReal := at1 (D.x1 p) (step (D.x1 p) (D.x2 p))
@[inherit_doc xs] def ys (p : Fin 4096) : BitVec 32 → Fin 5 → EReal := at1 (D.y1 p) (step (D.y1 p) (D.y2 p))

/-- The first branch, over the box, -/
def gh (p : Fin 4096) (o : Fin 128) (t : Fin 14) : EReal :=
  head D.ew D.eb D.pw D.pb (fun c => pooled (mean (D.fh c) (D.ys p) (D.xs p)))
    ![Ideal.div (D.x1 p) (word 0x42800000#32), Ideal.div (D.y1 p) (word 0x42800000#32), Ideal.div (D.x2 p) (word 0x42800000#32),
      Ideal.div (D.y2 p) (word 0x42800000#32)] o t
end Data

/-- the sampled rows of the whole height, -/
def yv : BitVec 32 → Fin 5 → EReal := at1 0 ((64 / 5 : ℝ) : EReal)

namespace Data
variable (D : Data)

/-- and the second, over the box's width and the whole height. -/
def gv (p : Fin 4096) (o : Fin 128) (t : Fin 14) : EReal :=
  head D.ew D.eb D.pw D.pb (fun c => pooled (mean (D.fv c) yv (D.xs p)))
    ![Ideal.div (D.x1 p) (word 0x42800000#32), 0, Ideal.div (D.x2 p) (word 0x42800000#32), 1] o t

/-- The result for the box at cell `p`. -/
def out (p : Fin 4096) (o : Fin 128) (t : Fin 14) : EReal := blend (D.gh p o t) (D.gv p o t)
end Data

/-! ## The peaks -/

/-- The first place of a list that holds its largest value. -/
def IsFirstTop {n : Nat} (v : Fin n → EReal) (p : Fin n) : Prop :=
  (∀ k, v k ≤ v p) ∧ ∀ k, v k = v p → p ≤ k

/-- Some place holds the largest value first, -/
theorem exists_firstTop (v : Fin 4096 → EReal) : ∃ p, IsFirstTop v p := by
  obtain ⟨q, -, hq⟩ := Finset.exists_max_image (Finset.univ : Finset (Fin 4096)) v ⟨0, Finset.mem_univ _⟩
  obtain ⟨p, hp, hp'⟩ := Finset.exists_min_image (Finset.univ.filter fun k => v k = v q) (fun k => k) ⟨q, by simp⟩
  have hpq : v p = v q := by simpa using hp
  exact ⟨p, fun k => hpq ▸ hq k (Finset.mem_univ _), fun k hk => hp' k (by simp [hk, hpq])⟩

/-- only one does, -/
theorem IsFirstTop.unique {n : Nat} {v : Fin n → EReal} {p q : Fin n} (hp : IsFirstTop v p) (hq : IsFirstTop v q) : p = q :=
  le_antisymm (hp.2 q (le_antisymm (hp.1 q) (hq.1 p))) (hq.2 p (le_antisymm (hq.1 p) (hp.1 q)))

/-- The first place of the largest value. -/
def firstTop (v : Fin 4096 → EReal) : Fin 4096 := (exists_firstTop v).choose
/-- and it is `firstTop`. -/
theorem firstTop_spec (v : Fin 4096 → EReal) : IsFirstTop v (firstTop v) := (exists_firstTop v).choose_spec

/-- The list with that place taken out. -/
def without (v : Fin 4096 → EReal) : Fin 4096 → EReal := fun k => if k = firstTop v then ⊥ else v k

/-- The list after `r` peaks are taken out. -/
def left (v : Fin 4096 → EReal) : Nat → Fin 4096 → EReal
  | 0 => v
  | r + 1 => without (left v r)

/-! ## The arrays -/

/-- The data of frame `n` of the argument arrays. -/
def dataOf (a0 : (⟨4, ![40, 1, 64, 64]⟩ : Shape).Idx → EReal) (a1 : (⟨4, ![40, 2, 64, 64]⟩ : Shape).Idx → EReal)
    (a2 : (⟨4, ![40, 4, 64, 64]⟩ : Shape).Idx → EReal) (a3 a4 : (⟨4, ![40, 128, 64, 64]⟩ : Shape).Idx → EReal)
    (a5 : (⟨2, ![128, 4]⟩ : Shape).Idx → EReal) (a6 : (⟨1, ![128]⟩ : Shape).Idx → EReal)
    (a7 : (⟨2, ![128, 128]⟩ : Shape).Idx → EReal) (a8 : (⟨1, ![128]⟩ : Shape).Idx → EReal) (n : Fin 40) : Data where
  hm p := a0 (ix4 n 0 (rowOf p) (colOf p))
  off k y x := a1 (ix4 n k y x)
  bs k y x := a2 (ix4 n k y x)
  fh c y x := a3 (ix4 n c y x)
  fv c y x := a4 (ix4 n c y x)
  ew c k := a5 (ix2 c k)
  eb c := a6 (ix1 c)
  pw o c := a7 (ix2 o c)
  pb o := a8 (ix1 o)

/-- The result at frame `n`, region `r`, channel `o`, place `t`. -/
def Data.result (D : Data) (r : Fin 4) (o : Fin 128) (t : Fin 14) : EReal := D.out (firstTop (left D.hm r.val)) o t

end Cert.Spec

end

end
-- ==== Proof.Peaks.lean ====
/- The kernel's search for the peaks at the extended reals: the map after `r` searches, the peak's cell number, its row and column, and
   a map's value there. -/
module

public import proofs.«01_k».proof.Proof.Vocab
public import proofs.«01_k».proof.Proof.Spec

@[expose] public section

noncomputable section

namespace Cert.KernelIdeal.Roi

open Idealize.ShloMosaic Idealize.ShloMosaic.TcCoe Cert.KernelIdeal.Gen
open scoped BigOperators

/-! ## Whole numbers as words -/

/-- A small word read as a signed number. -/
theorem toInt_small {k : Nat} (h : k < 2 ^ 31) : (BitVec.ofNat 32 k).toInt = (k : ℤ) := by
  rw [BitVec.toInt_ofNat', Int.bmod_eq_of_le] <;> omega

/-- A small word as a real number. -/
theorem sitofp_small {k : Nat} (h : k < 2 ^ 31) : FloatOps.sitofp (F := Ideal) .f32 (BitVec.ofNat 32 k) = (((k : ℝ)) : EReal) := by
  show ((((BitVec.ofNat 32 k).toInt : ℝ)) : EReal) = _
  rw [toInt_small h]; norm_cast

/-- Small words are equal where their numbers are. -/
theorem ofNat_inj_small {a b : Nat} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

/-- A test as a number. -/
theorem test_number (p : Prop) [Decidable p] :
    FloatOps.sitofp (F := Ideal) .f32 (BitVec.setWidth 32 (BitVec.ofBool (decide p))) = if p then (1 : EReal) else 0 := by
  by_cases h : p
  · simp only [h, decide_true, if_true]; exact (sitofp_small (k := 1) (by norm_num)).trans (by norm_cast)
  · simp only [h, decide_false, if_false]; exact (sitofp_small (k := 0) (by norm_num)).trans (by norm_cast)

/-- The least of a family of words: a fold of the signed minimum is a word that is attained and is below all. -/
theorem fold_minsi {ι : Type} [DecidableEq ι] (b : BitVec 32) (f : ι → BitVec 32) (s : Finset ι) :
    (s.fold IntOp.minsi b f = b ∨ ∃ k ∈ s, s.fold IntOp.minsi b f = f k)
      ∧ (s.fold IntOp.minsi b f).toInt ≤ b.toInt ∧ ∀ k ∈ s, (s.fold IntOp.minsi b f).toInt ≤ (f k).toInt := by
  induction s using Finset.induction_on with
  | empty => simp
  | insert a s ha ih =>
    rw [Finset.fold_insert ha]
    obtain ⟨h1, h2, h3⟩ := ih
    by_cases hlt : (f a).toInt < (s.fold IntOp.minsi b f).toInt
    · have e : IntOp.minsi (f a) (s.fold IntOp.minsi b f) = f a := by simp [IntOp.minsi, BitVec.slt, hlt]
      rw [e]
      refine ⟨Or.inr ⟨a, Finset.mem_insert_self _ _, rfl⟩, by omega, fun k hk => ?_⟩
      rcases Finset.mem_insert.mp hk with rfl | hk
      · exact le_rfl
      · exact le_trans hlt.le (h3 k hk)
    · have e : IntOp.minsi (f a) (s.fold IntOp.minsi b f) = s.fold IntOp.minsi b f := by simp [IntOp.minsi, BitVec.slt, hlt]
      rw [e]
      refine ⟨?_, h2, fun k hk => ?_⟩
      · rcases h1 with h | ⟨k, hk, h⟩
        · exact Or.inl h
        · exact Or.inr ⟨k, Finset.mem_insert_of_mem hk, h⟩
      · rcases Finset.mem_insert.mp hk with rfl | hk
        · omega
        · exact h3 k hk

/-- The word of -inf. -/
theorem word_bot : Ideal.ofBits .f32 0xFF800000#32 = ⊥ := by simp [Ideal.ofBits, Ideal.ieee]

/-! ## One search -/

/-- A cell's number. -/
theorem cellNo_at (y x : Fin 64) : cellNo (ix2 y x) = BitVec.ofNat 32 (Spec.cellOf y x).val := by
  pointwise [cellNo]
  simp only [IntOp.addi, IntOp.muli, Spec.cellOf]
  apply BitVec.eq_of_toNat_eq
  simp only [BitVec.toNat_add, BitVec.toNat_mul, BitVec.toNat_ofNat]
  omega

/-- `v` holds the map `c`. -/
def Reads (c : FVec Ideal S64x64 .f32) (v : Fin 4096 → EReal) : Prop := ∀ y x, c (ix2 y x) = v (Spec.cellOf y x)

section
variable {c : FVec Ideal S64x64 .f32} {v : Fin 4096 → EReal} (h : Reads c v)
include h

/-- The largest value. -/
theorem top_at (y x : Fin 64) : top c (ix2 y x) = v (Spec.firstTop v) := by
  pointwise [top]
  rw [word_bot]
  have hs := Spec.firstTop_spec v
  apply le_antisymm
  · rw [Finset.fold_max_le]
    exact ⟨bot_le, fun k _ => by rw [h]; exact hs.1 _⟩
  · rw [Finset.le_fold_max]
    refine Or.inr ⟨(Spec.rowOf (Spec.firstTop v), Spec.colOf (Spec.firstTop v)), Finset.mem_univ _, ?_⟩
    rw [h, Spec.cellOf_rowOf_colOf]

set_option maxRecDepth 100000 in
/-- The peak's cell number. -/
theorem peak_eq : peak c = fun _ => BitVec.ofNat 32 (Spec.firstTop v).val := by
  funext j
  have hj : j = ix2 0 0 := by funext a; fin_cases a <;> exact Subsingleton.elim (α := Fin 1) _ _
  subst hj
  have hs := Spec.firstTop_spec v
  have hp := (Spec.firstTop v).isLt
  have key : ∀ f : Fin 64 × Fin 64 → BitVec 32,
      (∀ k, f k = if v (Spec.cellOf k.1 k.2) = v (Spec.firstTop v) then BitVec.ofNat 32 (Spec.cellOf k.1 k.2).val else 4096#32) →
      Finset.fold IntOp.minsi 2147483647#32 f Finset.univ = BitVec.ofNat 32 (Spec.firstTop v).val := by
    intro f hf
    obtain ⟨h1, h2, h3⟩ := fold_minsi 2147483647#32 f Finset.univ
    have hat := h3 (Spec.rowOf (Spec.firstTop v), Spec.colOf (Spec.firstTop v)) (Finset.mem_univ _)
    rw [hf] at hat
    simp only [Spec.cellOf_rowOf_colOf, if_true] at hat
    rw [toInt_small (by omega)] at hat
    apply BitVec.eq_of_toInt_eq
    rw [toInt_small (by omega)]
    apply le_antisymm hat
    rcases h1 with h1 | ⟨k, -, h1⟩
    · rw [h1, show (2147483647#32 : BitVec 32).toInt = 2147483647 by decide]; omega
    · rw [h1, hf]
      split_ifs with hk
      · rw [toInt_small (by have := (Spec.cellOf k.1 k.2).isLt; omega)]
        exact_mod_cast hs.2 _ hk
      · rw [show (4096#32 : BitVec 32).toInt = 4096 by decide]; omega
  refine Eq.trans ?_ (key (fun k => if v (Spec.cellOf k.1 k.2) = v (Spec.firstTop v) then BitVec.ofNat 32 (Spec.cellOf k.1 k.2).val else 4096#32) (fun _ => rfl))
  pointwise [peak]
  refine congrArg (fun f => Finset.fold IntOp.minsi 2147483647#32 f Finset.univ) (funext fun k => ?_)
  rw [top_at h, cellNo_at, h]

/-- Whether a cell is the peak. -/
theorem isPeak_at (y x : Fin 64) : isPeak c (ix2 y x) = BitVec.ofBool (decide (Spec.cellOf y x = Spec.firstTop v)) := by
  pointwise [isPeak]
  rw [peak_eq h, cellNo_at]
  simp only [IntOp.cmpi]
  congr 1
  rw [Bool.eq_iff_iff]
  simp only [beq_iff_eq, decide_eq_true_eq]
  rw [ofNat_inj_small (by have := (Spec.cellOf y x).isLt; omega) (by have := (Spec.firstTop v).isLt; omega), Fin.ext_iff]

/-- The map with its peak taken out. -/
theorem knock_at : Reads (knock c) (Spec.without v) := by
  intro y x
  pointwise [knock]
  rw [isPeak_at h, h, word_bot, Spec.without]
  by_cases e : Spec.cellOf y x = Spec.firstTop v <;> simp [e, Scalar.select]

/-- One at the peak, zero elsewhere. -/
theorem mark_at (y x : Fin 64) : mark c (ix2 y x) = if Spec.cellOf y x = Spec.firstTop v then (1 : EReal) else 0 := by
  pointwise [mark]
  rw [isPeak_at h, test_number]

/-- A map's value at the peak. -/
theorem pick_at (w : Vec Ideal S1x1x64x64 .f32) :
    pick (mark c) w (ix2 0 0) = w (ix4 0 0 (Spec.rowOf (Spec.firstTop v)) (Spec.colOf (Spec.firstTop v))) := by
  pointwise [pick]
  simp only [mark_at h]
  rw [Finset.sum_eq_single (Spec.rowOf (Spec.firstTop v)), Finset.sum_eq_single (Spec.colOf (Spec.firstTop v))]
  · rw [Spec.cellOf_rowOf_colOf, if_pos rfl, mul_one]
  · intro x _ hx
    rw [if_neg, mul_zero]
    intro e; exact hx (by rw [← e, Spec.colOf_cellOf])
  · simp
  · intro y _ hy
    refine Finset.sum_eq_zero fun x _ => ?_
    rw [if_neg, mul_zero]
    intro e; exact hy (by rw [← e, Spec.rowOf_cellOf])
  · simp

end

set_option maxRecDepth 100000 in
/-- The row of a cell number, -/
theorem row_at (p : Fin 4096) : row (F := Ideal) (fun _ => BitVec.ofNat 32 p.val) (ix2 0 0) = (((Spec.rowOf p).val : ℝ) : EReal) := by
  rw [← sitofp_small (by have := (Spec.rowOf p).isLt; omega)]
  pointwise [row]
  refine congrArg (FloatOps.sitofp (F := Ideal) FTy.f32) ?_
  revert p
  decide +kernel

set_option maxRecDepth 100000 in
/-- and its column. -/
theorem col_at (p : Fin 4096) : col (F := Ideal) (fun _ => BitVec.ofNat 32 p.val) (ix2 0 0) = (((Spec.colOf p).val : ℝ) : EReal) := by
  rw [← sitofp_small (by have := (Spec.colOf p).isLt; omega)]
  pointwise [col]
  refine congrArg (FloatOps.sitofp (F := Ideal) FTy.f32) ?_
  revert p
  decide +kernel

/-- The map before search `r`. -/
theorem cur_at {x0 : Vec Ideal S1x1x64x64 .f32} {v : Fin 4096 → EReal} (h : ∀ y x, x0 (ix4 0 0 y x) = v (Spec.cellOf y x)) :
    ∀ r, Reads (cur x0 r) (Spec.left v r)
  | 0 => fun y x => by
    pointwise [cur]
    exact h y x
  | r + 1 => knock_at (cur_at h r)

end Cert.KernelIdeal.Roi

end

end
-- ==== Proof.Region.lean ====
/- One block of the kernel in plain numbers: the samples' cells chosen by rows of ones and zeros, the bilinear means, the head, the blend. -/
module

public import proofs.«01_k».proof.Proof.Peaks

@[expose] public section

noncomputable section

namespace Cert.KernelIdeal.Roi

open Idealize.ShloMosaic Idealize.ShloMosaic.TcCoe Cert.KernelIdeal.Gen
open scoped BigOperators

/-! ## The sampled coordinates -/

/-- The part after the point of a row coordinate, -/
theorem frac_y (v : FVec Ideal S5x1x1 .f32) (i : Fin 5) : frac _ v (ix3 i 0 0) = Spec.frac (v (ix3 i 0 0)) := by
  pointwise [frac, kept]; rfl
/-- and of a column coordinate. -/
theorem frac_x (v : FVec Ideal S1x5x1 .f32) (i : Fin 5) : frac _ v (ix3 0 i 0) = Spec.frac (v (ix3 0 i 0)) := by
  pointwise [frac, kept]; rfl
/-- Whether a row coordinate lies on the map, -/
theorem inside_y (v : FVec Ideal S5x1x1 .f32) (i : Fin 5) : inside _ v (ix3 i 0 0) = Spec.inside (v (ix3 i 0 0)) := by
  pointwise [inside]; rfl
/-- and a column coordinate. -/
theorem inside_x (v : FVec Ideal S1x5x1 .f32) (i : Fin 5) : inside _ v (ix3 0 i 0) = Spec.inside (v (ix3 0 i 0)) := by
  pointwise [inside]; rfl
/-- A coordinate's lower neighbour, -/
theorem below_at (v : FVec Ideal S5x1 .f32) (i : Fin 5) : below v (ix2 i 0) = (((Spec.cell (v (ix2 i 0))).val : ℝ) : EReal) := by
  rw [← Spec.down_eq]; pointwise [below, kept]; rfl
/-- and its upper one. -/
theorem above_at (v : FVec Ideal S5x1 .f32) (i : Fin 5) : above v (ix2 i 0) = (((Spec.cellUp (v (ix2 i 0))).val : ℝ) : EReal) := by
  rw [← Spec.up_eq]; pointwise [above, below, kept]; rfl

/-- A bin's number as a real number. -/
theorem sitofp_fin (i : Fin 5) : FloatOps.sitofp (F := Ideal) .f32 (BitVec.ofNat 32 i.val) = ((i.val : ℝ) : EReal) :=
  sitofp_small (by have := i.isLt; omega)

/-- The coordinates of the samples, as a column for the one-hot rows, -/
theorem placeC_at (w : BitVec 32) (l d : FVec Ideal S1x1 .f32) (i : Fin 5) :
    placeC w l d (ix2 i 0) = Spec.at1 (l (ix2 0 0)) (d (ix2 0 0)) w i := by
  pointwise [placeC, place, offC]; rw [sitofp_fin]; rfl
/-- along the columns of the grid, -/
theorem placeX_at (w : BitVec 32) (l d : FVec Ideal S1x1 .f32) (i : Fin 5) :
    placeX w l d (ix3 0 i 0) = Spec.at1 (l (ix2 0 0)) (d (ix2 0 0)) w i := by
  pointwise [placeX, place, offX]; rw [sitofp_fin]; rfl
/-- along its rows, -/
theorem placeY_at (w : BitVec 32) (l d : FVec Ideal S1x1 .f32) (i : Fin 5) :
    placeY w l d (ix3 i 0 0) = Spec.at1 (l (ix2 0 0)) (d (ix2 0 0)) w i := by
  pointwise [placeY, place, offY]; rw [sitofp_fin]; rfl
/-- and those of the second branch's rows. -/
theorem placeV_at (w : BitVec 32) (i : Fin 5) : placeV (F := Ideal) w (ix3 i 0 0) = Spec.yv w i := by
  pointwise [placeV, place, offY]; rw [sitofp_fin, Spec.yv, Spec.at1, zero_add]; rfl

/-! ## The choosers -/

/-- A sum against a row that is one at `k` and zero elsewhere. -/
theorem sum_hot {n : Nat} (k : Fin n) (f : Fin n → EReal) : ∑ x, (if x = k then (1 : EReal) else 0) * f x = f k := by
  rw [Finset.sum_eq_single k]
  · rw [if_pos rfl, one_mul]
  · intro x _ hx; rw [if_neg hx, zero_mul]
  · simp

/-- The row of ones and zeros for a cell. -/
theorem hot_at (c : FVec Ideal S5x1 .f32) (k : Fin 64) (i : Fin 5) (h : c (ix2 i 0) = ((k.val : ℝ) : EReal)) (x : Fin 64) :
    hot c (ix2 i x) = if x = k then (1 : EReal) else 0 := by
  pointwise [hot]
  rw [test_number, h, sitofp_small (by have := x.isLt; omega)]
  simp only [EReal.coe_eq_coe_iff, Nat.cast_inj, Fin.ext_iff]

/-- The cell that row `a` of a region's chooser takes, from the two offsets' coordinates. -/
def takes (s : BitVec 32 → Fin 5 → EReal) (a : Fin 20) : Fin 64 :=
  if h : a.val < 5 then Spec.cell (s 0x3E800000#32 ⟨a.val, h⟩)
  else if h : a.val - 5 < 5 then Spec.cell (s 0x3F400000#32 ⟨a.val - 5, h⟩)
  else if h : a.val - 5 - 5 < 5 then Spec.cellUp (s 0x3E800000#32 ⟨a.val - 5 - 5, h⟩)
  else Spec.cellUp (s 0x3F400000#32 ⟨a.val - 5 - 5 - 5, by omega⟩)

/-- The one-hot matrix: row `a` marks the neighbour that it takes. -/
theorem grid_at (l d : FVec Ideal S1x1 .f32) (a : Fin 20) (x : Fin 64) :
    grid l d (ix2 a x) = if x = takes (Spec.at1 (l (ix2 0 0)) (d (ix2 0 0))) a then (1 : EReal) else 0 := by
  pointwise [grid]
  simp only [takes]
  split_ifs <;> exact hot_at _ _ _ (by first | rw [below_at, placeC_at] | rw [above_at, placeC_at]) x

/-- The gathered row that row `a` of the second branch's chooser takes. -/
def takesV (a : Fin 20) : Fin 20 := ![0, 4, 8, 12, 16, 2, 6, 10, 14, 18, 1, 5, 9, 13, 17, 3, 7, 11, 15, 19] a

/-- A block of the second branch's one-hot matrix. -/
theorem hotV_at (k : Nat) (hk : k < 4) (i : Fin 5) (x : Fin 20) :
    hotV (F := Ideal) (BitVec.ofNat 32 k) (ix2 i x) = if x.val = 4 * i.val + k then (1 : EReal) else 0 := by
  pointwise [hotV]
  rw [show IntOp.addi (IntOp.muli (BitVec.ofNat 32 i.val) 4#32) (BitVec.ofNat 32 k) = BitVec.ofNat 32 (4 * i.val + k) by
    simp only [IntOp.addi, IntOp.muli]
    apply BitVec.eq_of_toNat_eq
    simp only [BitVec.toNat_add, BitVec.toNat_mul, BitVec.toNat_ofNat]
    omega]
  rw [show IntOp.cmpi .eq (BitVec.ofNat 32 x.val) (BitVec.ofNat 32 (4 * i.val + k)) = BitVec.ofBool (decide (x.val = 4 * i.val + k)) by
    simp only [IntOp.cmpi]
    congr 1
    rw [Bool.eq_iff_iff]
    simp only [beq_iff_eq, decide_eq_true_eq]
    exact ofNat_inj_small (by have := x.isLt; omega) (by omega)]
  exact test_number _

/-- The row that each row of it takes, one by one. -/
theorem takesV_eq : ∀ a x : Fin 20, x = takesV a ↔
    if a.val < 5 then x.val = 4 * a.val + 0 else if a.val - 5 < 5 then x.val = 4 * (a.val - 5) + 2
    else if a.val - 5 - 5 < 5 then x.val = 4 * (a.val - 5 - 5) + 1 else x.val = 4 * (a.val - 5 - 5 - 5) + 3 := by
  decide +kernel

/-- The second branch's one-hot matrix. -/
theorem gridV_at (a x : Fin 20) : gridV (F := Ideal) (ix2 a x) = if x = takesV a then (1 : EReal) else 0 := by
  pointwise [gridV]
  have h0 : ∀ i x, hotV (F := Ideal) 0#32 (ix2 i x) = if x.val = 4 * i.val + 0 then (1 : EReal) else 0 := hotV_at 0 (by norm_num)
  have h1 : ∀ i x, hotV (F := Ideal) 1#32 (ix2 i x) = if x.val = 4 * i.val + 1 then (1 : EReal) else 0 := hotV_at 1 (by norm_num)
  have h2 : ∀ i x, hotV (F := Ideal) 2#32 (ix2 i x) = if x.val = 4 * i.val + 2 then (1 : EReal) else 0 := hotV_at 2 (by norm_num)
  have h3 : ∀ i x, hotV (F := Ideal) 3#32 (ix2 i x) = if x.val = 4 * i.val + 3 then (1 : EReal) else 0 := hotV_at 3 (by norm_num)
  simp only [h0, h1, h2, h3, takesV_eq a x]
  by_cases c1 : a.val < 5
  · simp only [c1, if_true, dif_pos]
  by_cases c2 : a.val - 5 < 5
  · simp only [c1, c2, if_true, if_false, dif_pos, dif_neg, not_false_eq_true]
  by_cases c3 : a.val - 5 - 5 < 5
  · simp only [c1, c2, c3, if_true, if_false, dif_pos, dif_neg, not_false_eq_true]
  · simp only [c1, c2, c3, if_false, dif_neg, not_false_eq_true]

/-! ## The mean -/

/-- The kernel's bilinear sums are the samples. -/
theorem bilin_at (a b c d : FVec Ideal S5x5x128 .f32) (ly : FVec Ideal S5x1x1 .f32) (lx : FVec Ideal S1x5x1 .f32) (vy : IVec S5x1x1 1)
    (vx : IVec S1x5x1 1) (i j : Fin 5) (k : Fin 128) :
    bilin a b c d ly lx vy vx (ix3 i j k) = Scalar.select (IntOp.andi (vy (ix3 i 0 0)) (vx (ix3 0 j 0)))
      (a (ix3 i j k) * ((1 - ly (ix3 i 0 0)) * (1 - lx (ix3 0 j 0))) + b (ix3 i j k) * ((1 - ly (ix3 i 0 0)) * lx (ix3 0 j 0))
        + c (ix3 i j k) * (ly (ix3 i 0 0) * (1 - lx (ix3 0 j 0))) + d (ix3 i j k) * (ly (ix3 i 0 0) * lx (ix3 0 j 0))) 0 := by
  pointwise [bilin]

/-- The rows of each of the four parts of a chooser. -/
theorem takes_0 (s : BitVec 32 → Fin 5 → EReal) (i : Fin 5) (h) : takes s ⟨i.val, h⟩ = Spec.cell (s 0x3E800000#32 i) := by
  rw [takes, dif_pos i.isLt]
/-- Rows 5 to 9 take the lower neighbours at the second offset, -/
theorem takes_5 (s : BitVec 32 → Fin 5 → EReal) (i : Fin 5) (h) : takes s ⟨5 + i.val, h⟩ = Spec.cell (s 0x3F400000#32 i) := by
  rw [takes, dif_neg (by simp), dif_pos (by have := i.isLt; simp)]
  congr 2; simp
/-- rows 10 to 14 the upper ones at the first, -/
theorem takes_10 (s : BitVec 32 → Fin 5 → EReal) (i : Fin 5) (h) : takes s ⟨10 + i.val, h⟩ = Spec.cellUp (s 0x3E800000#32 i) := by
  rw [takes, dif_neg (by simp; omega), dif_neg (by simp; omega), dif_pos (by have := i.isLt; simp; omega)]
  congr 2; apply Fin.ext; simp; omega
/-- rows 15 to 19 the upper ones at the second. -/
theorem takes_15 (s : BitVec 32 → Fin 5 → EReal) (i : Fin 5) (h) : takes s ⟨15 + i.val, h⟩ = Spec.cellUp (s 0x3F400000#32 i) := by
  rw [takes, dif_neg (by simp; omega), dif_neg (by simp; omega), dif_neg (by simp; omega)]
  congr 2; apply Fin.ext; simp; omega

/-- The mean of a bin's four samples, for a block of 20 × 20 cells taken from a picture. -/
theorem mean_at (u : FVec Ideal S20x20x128 .f32) (Y : BitVec 32 → FVec Ideal S5x1x1 .f32) (X : BitVec 32 → FVec Ideal S1x5x1 .f32)
    (f : Fin 64 → Fin 64 → EReal) (ys xs : BitVec 32 → Fin 5 → EReal) (hy : ∀ w i, Y w (ix3 i 0 0) = ys w i)
    (hx : ∀ w i, X w (ix3 0 i 0) = xs w i) (k : Fin 128) (hu : ∀ a b, u (ix3 a b k) = f (takes ys a) (takes xs b)) (i j : Fin 5) :
    mean u Y X (ix3 i j k) = Spec.mean f ys xs i j := by
  pointwise [mean]
  simp only [bilin_at, frac_y, frac_x, inside_y, inside_x, hy, hx]
  pointwise []
  simp only [hu, takes_0, takes_5, takes_10, takes_15]
  rfl

end Cert.KernelIdeal.Roi

end

end
-- ==== Proof.Block.lean ====
/- What the kernel's body stores for one region of a frame whose data its blocks hold. -/
module

public import proofs.«01_k».proof.Proof.Region

@[expose] public section

noncomputable section

namespace Cert.KernelIdeal.Roi

open Idealize.ShloMosaic Idealize.ShloMosaic.TcCoe Cert.KernelIdeal.Gen
open scoped BigOperators

/-- The rows of the second feature map that the kernel is given. -/
def vrow : Fin 20 → Fin 64 := ![3, 4, 9, 10, 16, 17, 22, 23, 28, 29, 35, 36, 41, 42, 48, 49, 54, 55, 60, 61]

/-- The word of 1/4. -/
theorem word_quarter : Spec.word 0x3E800000#32 = ((1 / 4 : ℝ) : EReal) := by
  simp [Spec.word, Ideal.ofBits, Ideal.ieee, -EReal.coe_mul]; norm_num
/-- The word of 3/4. -/
theorem word_threeQuarters : Spec.word 0x3F400000#32 = ((3 / 4 : ℝ) : EReal) := by
  simp [Spec.word, Ideal.ofBits, Ideal.ieee, -EReal.coe_mul]; norm_num

/-- The cell of a real coordinate in range. -/
theorem cell_real (r : ℝ) (n : Fin 64) (h0 : (n.val : ℝ) ≤ r) (h1 : r < n.val + 1) (h2 : r ≤ 63) : Spec.cell (r : EReal) = n := by
  have hk : Spec.kept (r : EReal) = (r : EReal) := by
    have hr0 : (0 : ℝ) ≤ r := le_trans (by positivity) h0
    rw [Spec.kept, Spec.word_63, max_eq_right (by exact_mod_cast hr0), min_eq_right (by exact_mod_cast h2)]
  apply Fin.ext
  have : ⌊r⌋ = (n.val : ℤ) := Int.floor_eq_iff.mpr ⟨by exact_mod_cast h0, by exact_mod_cast h1⟩
  simp only [Spec.cell, hk, EReal.toReal_coe, this, Int.toNat_natCast]

/-- The upper neighbour, from the lower. -/
theorem cellUp_eq {v : EReal} {n : Fin 64} (h : Spec.cell v = n) : Spec.cellUp v = ⟨min (n.val + 1) 63, by omega⟩ := by
  subst h; rfl

/-- A row coordinate of the second branch is a real number: 64/5 to a bin. -/
theorem yv_real (w : BitVec 32) (q : ℝ) (hq : Spec.word w = (q : EReal)) (i : Fin 5) : Spec.yv w i = (((i.val + q) * (64 / 5) : ℝ) : EReal) := by
  rw [Spec.yv, Spec.at1, hq, zero_add]; norm_cast

/-- The rows given are the rows the samples of the whole height take. -/
theorem vrow_takesV (a : Fin 20) : vrow (takesV a) = takes Spec.yv a := by
  have q (i : Fin 5) (n : Fin 64) (h : (n.val : ℝ) ≤ (i.val + 1 / 4) * (64 / 5) ∧ (i.val + 1 / 4) * (64 / 5) < (n.val : ℝ) + 1 ∧ ((i.val : ℝ) + 1 / 4) * (64 / 5) ≤ 63) :
      Spec.cell (Spec.yv 0x3E800000#32 i) = n := by
    rw [yv_real _ _ word_quarter]; exact cell_real _ n h.1 h.2.1 h.2.2
  have t (i : Fin 5) (n : Fin 64) (h : (n.val : ℝ) ≤ (i.val + 3 / 4) * (64 / 5) ∧ (i.val + 3 / 4) * (64 / 5) < (n.val : ℝ) + 1 ∧ ((i.val : ℝ) + 3 / 4) * (64 / 5) ≤ 63) :
      Spec.cell (Spec.yv 0x3F400000#32 i) = n := by
    rw [yv_real _ _ word_threeQuarters]; exact cell_real _ n h.1 h.2.1 h.2.2
  have q0 := q 0 3 (by norm_num); have q1 := q 1 16 (by norm_num); have q2 := q 2 28 (by norm_num)
  have q3 := q 3 41 (by norm_num); have q4 := q 4 54 (by norm_num)
  have t0 := t 0 9 (by norm_num); have t1 := t 1 22 (by norm_num); have t2 := t 2 35 (by norm_num)
  have t3 := t 3 48 (by norm_num); have t4 := t 4 60 (by norm_num)
  have c0 := takes_0 Spec.yv; have c5 := takes_5 Spec.yv; have c10 := takes_10 Spec.yv; have c15 := takes_15 Spec.yv
  fin_cases a
  · exact ((c0 0 (by norm_num)).trans q0).symm
  · exact ((c0 1 (by norm_num)).trans q1).symm
  · exact ((c0 2 (by norm_num)).trans q2).symm
  · exact ((c0 3 (by norm_num)).trans q3).symm
  · exact ((c0 4 (by norm_num)).trans q4).symm
  · exact ((c5 0 (by norm_num)).trans t0).symm
  · exact ((c5 1 (by norm_num)).trans t1).symm
  · exact ((c5 2 (by norm_num)).trans t2).symm
  · exact ((c5 3 (by norm_num)).trans t3).symm
  · exact ((c5 4 (by norm_num)).trans t4).symm
  · exact ((c10 0 (by norm_num)).trans (cellUp_eq q0)).symm
  · exact ((c10 1 (by norm_num)).trans (cellUp_eq q1)).symm
  · exact ((c10 2 (by norm_num)).trans (cellUp_eq q2)).symm
  · exact ((c10 3 (by norm_num)).trans (cellUp_eq q3)).symm
  · exact ((c10 4 (by norm_num)).trans (cellUp_eq q4)).symm
  · exact ((c15 0 (by norm_num)).trans (cellUp_eq t0)).symm
  · exact ((c15 1 (by norm_num)).trans (cellUp_eq t1)).symm
  · exact ((c15 2 (by norm_num)).trans (cellUp_eq t2)).symm
  · exact ((c15 3 (by norm_num)).trans (cellUp_eq t3)).symm
  · exact ((c15 4 (by norm_num)).trans (cellUp_eq t4)).symm

/-- The blocks hold a frame's data. -/
structure Holds (D : Spec.Data) (x0 : Vec Ideal S1x1x64x64 .f32) (x1 : Vec Ideal S1x2x64x64 .f32) (x2 : Vec Ideal S1x4x64x64 .f32)
    (x3 : Vec Ideal S1x64x64x128 .f32) (x4 : Vec Ideal S1x20x64x128 .f32) (x5 : Vec Ideal S4x128 .f32) (x6 : Vec Ideal S1x128 .f32)
    (x7 : Vec Ideal S128x128 .f32) (x8 : Vec Ideal S128x1 .f32) (x9 : Vec Ideal S25x14 .f32) : Prop where
  hm : ∀ y x, x0 (ix4 0 0 y x) = D.hm (Spec.cellOf y x)
  off : ∀ k y x, x1 (ix4 0 k y x) = D.off k y x
  bs : ∀ k y x, x2 (ix4 0 k y x) = D.bs k y x
  fh : ∀ c y x, x3 (ix4 0 y x c) = D.fh c y x
  fv : ∀ c k x, x4 (ix4 0 k x c) = D.fv c (vrow k) x
  ew : ∀ j c, x5 (ix2 j c) = D.ew c j
  eb : ∀ c, x6 (ix2 0 c) = D.eb c
  pw : ∀ o c, x7 (ix2 o c) = D.pw o c
  pb : ∀ o, x8 (ix2 o 0) = D.pb o
  pool : ∀ b t, x9 (ix2 b t) = Spec.pool b t

section
variable {D : Spec.Data} {x0 : Vec Ideal S1x1x64x64 .f32} {x1 : Vec Ideal S1x2x64x64 .f32} {x2 : Vec Ideal S1x4x64x64 .f32}
    {x3 : Vec Ideal S1x64x64x128 .f32} {x4 : Vec Ideal S1x20x64x128 .f32} {x5 : Vec Ideal S4x128 .f32} {x6 : Vec Ideal S1x128 .f32}
    {x7 : Vec Ideal S128x128 .f32} {x8 : Vec Ideal S128x1 .f32} {x9 : Vec Ideal S25x14 .f32}

/-- The cell of region `r`'s peak. -/
abbrev peakOf (D : Spec.Data) (r : Nat) : Fin 4096 := Spec.firstTop (Spec.left D.hm r)

section
variable (H : Holds D x0 x1 x2 x3 x4 x5 x6 x7 x8 x9)
include H

/-- The left side of the box of peak `r`, -/
theorem X1_at (r : Nat) : X1 x0 x1 x2 r (ix2 0 0) = D.x1 (peakOf D r) := by
  have h := cur_at H.hm r
  pointwise [X1, lo, near, centre]
  rw [peak_eq h, col_at, pick_at h, pick_at h, pick_at h]
  pointwise []
  rw [H.off, H.bs, H.bs]
  rfl
/-- its top, -/
theorem Y1_at (r : Nat) : Y1 x0 x1 x2 r (ix2 0 0) = D.y1 (peakOf D r) := by
  have h := cur_at H.hm r
  pointwise [Y1, lo, near, centre]
  rw [peak_eq h, row_at, pick_at h, pick_at h, pick_at h]
  pointwise []
  rw [H.off, H.bs, H.bs]
  rfl
/-- its right side, -/
theorem X2_at (r : Nat) : X2 x0 x1 x2 r (ix2 0 0) = D.x2 (peakOf D r) := by
  have h := cur_at H.hm r
  pointwise [X2, hi, far, centre]
  rw [peak_eq h, col_at, pick_at h, pick_at h, pick_at h]
  pointwise []
  rw [H.off, H.bs, H.bs]
  rfl
/-- its bottom, -/
theorem Y2_at (r : Nat) : Y2 x0 x1 x2 r (ix2 0 0) = D.y2 (peakOf D r) := by
  have h := cur_at H.hm r
  pointwise [Y2, hi, far, centre]
  rw [peak_eq h, row_at, pick_at h, pick_at h, pick_at h]
  pointwise []
  rw [H.off, H.bs, H.bs]
  rfl

/-- its width by a bin, -/
theorem DX_at (r : Nat) : DX x0 x1 x2 r (ix2 0 0) = Spec.step (D.x1 (peakOf D r)) (D.x2 (peakOf D r)) := by
  pointwise [DX, step]
  rw [X1_at H, X2_at H]; rfl
/-- its height by a bin. -/
theorem DY_at (r : Nat) : DY x0 x1 x2 r (ix2 0 0) = Spec.step (D.y1 (peakOf D r)) (D.y2 (peakOf D r)) := by
  pointwise [DY, step]
  rw [Y1_at H, Y2_at H]; rfl

/-- Region `r`'s rows of the column chooser. -/
theorem grids_at (r : Nat) (hr : r < 4) (a : Fin 20) (x : Fin 64) (h : 20 * r + a.val < 80) :
    grids x0 x1 x2 (ix2 ⟨20 * r + a.val, h⟩ x) = if x = takes (D.xs (peakOf D r)) a then (1 : EReal) else 0 := by
  have e (r : Nat) : grid (X1 x0 x1 x2 r) (DX x0 x1 x2 r) (ix2 a x) = if x = takes (D.xs (peakOf D r)) a then (1 : EReal) else 0 := by
    rw [grid_at, X1_at H, DX_at H]; rfl
  have ha := a.isLt
  have ea (m : Nat) (hm : m = a.val) (h : m < 20) : (⟨m, h⟩ : Fin 20) = a := Fin.ext hm
  rcases (show r = 0 ∨ r = 1 ∨ r = 2 ∨ r = 3 by omega) with rfl | rfl | rfl | rfl
  · pointwise [grids]; exact e 0
  · pointwise [grids]; exact e 1
  · pointwise [grids]
    rw [dif_neg (by omega), dif_neg (by omega), dif_pos (by omega), ea _ (by omega)]; exact e 2
  · pointwise [grids]
    rw [dif_neg (by omega), dif_neg (by omega), dif_neg (by omega), ea _ (by omega)]; exact e 3

/-- Region `r`'s 20 × 20 cells of the first feature map. -/
theorem cellsH_at (r : Nat) (hr : r < 4) (h) (a b : Fin 20) (c : Fin 128) :
    cellsH x0 x1 x2 x3 r h (ix3 a b c) = D.fh c (takes (D.ys (peakOf D r)) a) (takes (D.xs (peakOf D r)) b) := by
  pointwise [cellsH, colsH]
  simp only [grids_at H r hr, sum_hot, grid_at, Y1_at H, DY_at H]
  rw [H.fh]; rfl
/-- Region `r`'s 20 × 20 cells of the second. -/
theorem cellsV_at (r : Nat) (hr : r < 4) (h) (a b : Fin 20) (c : Fin 128) :
    cellsV x0 x1 x2 x4 r h (ix3 a b c) = D.fv c (takes Spec.yv a) (takes (D.xs (peakOf D r)) b) := by
  pointwise [cellsV, colsV]
  simp only [grids_at H r hr, sum_hot, gridV_at]
  rw [H.fv, vrow_takesV]

/-- The column coordinates of the samples, -/
theorem placeX_D (r : Nat) (w : BitVec 32) (i : Fin 5) :
    placeX w (X1 x0 x1 x2 r) (DX x0 x1 x2 r) (ix3 0 i 0) = D.xs (peakOf D r) w i := by
  rw [placeX_at, X1_at H, DX_at H]; rfl
/-- and the row coordinates. -/
theorem placeY_D (r : Nat) (w : BitVec 32) (i : Fin 5) :
    placeY w (Y1 x0 x1 x2 r) (DY x0 x1 x2 r) (ix3 i 0 0) = D.ys (peakOf D r) w i := by
  rw [placeY_at, Y1_at H, DY_at H]; rfl

/-- The first branch's box over 64, -/
theorem boxH_at (r : Nat) (k : Fin 4) : boxH (X1 x0 x1 x2 r) (Y1 x0 x1 x2 r) (X2 x0 x1 x2 r) (Y2 x0 x1 x2 r) (ix2 0 k)
    = ![Ideal.div (D.x1 (peakOf D r)) (Spec.word 0x42800000#32), Ideal.div (D.y1 (peakOf D r)) (Spec.word 0x42800000#32),
      Ideal.div (D.x2 (peakOf D r)) (Spec.word 0x42800000#32), Ideal.div (D.y2 (peakOf D r)) (Spec.word 0x42800000#32)] k := by
  rw [← X1_at H, ← Y1_at H, ← X2_at H, ← Y2_at H]
  fin_cases k
  · show boxH _ _ _ _ (ix2 0 0) = _
    pointwise [boxH, four, over64]
  · show boxH _ _ _ _ (ix2 0 1) = _
    pointwise [boxH, four, over64]
  · show boxH _ _ _ _ (ix2 0 2) = _
    pointwise [boxH, four, over64]
  · show boxH _ _ _ _ (ix2 0 3) = _
    pointwise [boxH, four, over64]
/-- and the second's. -/
theorem boxV_at (r : Nat) (k : Fin 4) : boxV (X1 x0 x1 x2 r) (X2 x0 x1 x2 r) (ix2 0 k)
    = ![Ideal.div (D.x1 (peakOf D r)) (Spec.word 0x42800000#32), 0, Ideal.div (D.x2 (peakOf D r)) (Spec.word 0x42800000#32), 1] k := by
  rw [← X1_at H, ← X2_at H]
  fin_cases k
  · show boxV _ _ (ix2 0 0) = _
    pointwise [boxV, four, over64]
  · show boxV _ _ (ix2 0 1) = _
    pointwise [boxV, four, over64]; simp
  · show boxV _ _ (ix2 0 2) = _
    pointwise [boxV, four, over64]
  · show boxV _ _ (ix2 0 3) = _
    pointwise [boxV, four, over64]; simp

/-- The pooled features of a branch. -/
theorem pooled_at (v : FVec Ideal S5x5x128 .f32) (g : Fin 5 → Fin 5 → EReal) (c : Fin 128) (hv : ∀ i j, v (ix3 i j c) = g i j) (t : Fin 14) :
    pooled v (View.ld x9 r0_5) (ix2 c t) = Spec.pooled g t := by
  pointwise [pooled]
  simp only [hv, H.pool]
  rfl

/-- A branch's result. -/
theorem headOf_at (af : FVec Ideal S128x14 .f32) (box : FVec Ideal S1x4 .f32) (f : Fin 128 → Fin 14 → EReal) (b : Fin 4 → EReal)
    (hf : ∀ c t, af (ix2 c t) = f c t) (hb : ∀ k, box (ix2 0 k) = b k) (o : Fin 128) (t : Fin 14) :
    headOf (shapeCast S4x128 (View.ld x5 r0_1) shapeCasts_S4x128_S4x128) (shapeCast S1x128 (View.ld x6 r0_2) shapeCasts_S1x128_S1x128)
      (View.ld x7 r0_3) (shapeCast S128x1 (View.ld x8 r0_4) shapeCasts_S128x1_S128x1) af box (ix2 o t)
    = Spec.head D.ew D.eb D.pw D.pb f b o t := by
  pointwise [headOf]
  simp only [hf, hb, H.ew, H.eb, H.pw, H.pb]
  rfl

/-- The first branch's result for peak `r`, -/
theorem gH_at (r : Nat) (hr : r < 4) (h) (o : Fin 128) (t : Fin 14) :
    gH x0 x1 x2 x3 x5 x6 x7 x8 x9 r h (ix2 o t) = D.gh (peakOf D r) o t := by
  refine headOf_at H _ _ _ _ (fun c t => ?_) (boxH_at H r) o t
  exact pooled_at H _ _ c (fun i j => mean_at _ _ _ _ _ _ (placeY_D H r) (placeX_D H r) c (fun a b => cellsH_at H r hr h a b c) i j) t
/-- and the second's. -/
theorem gV_at (r : Nat) (hr : r < 4) (h) (o : Fin 128) (t : Fin 14) :
    gV x0 x1 x2 x4 x5 x6 x7 x8 x9 r h (ix2 o t) = D.gv (peakOf D r) o t := by
  refine headOf_at H _ _ _ _ (fun c t => ?_) (boxV_at H r) o t
  exact pooled_at H _ _ c (fun i j => mean_at _ _ _ _ _ _ placeV_at (placeX_D H r) c (fun a b => cellsV_at H r hr h a b c) i j) t

/-- What the body stores for region `r`. -/
theorem piece_at (r : Nat) (hr : r < 4) (h h') (o : Fin 128) (t : Fin 14) :
    piece x0 x1 x2 x3 x4 x5 x6 x7 x8 x9 r h h' (ix4 0 0 o t) = D.out (peakOf D r) o t := by
  pointwise [piece, blend]
  rw [gH_at H r hr, gV_at H r hr]
  rfl

end
end

end Cert.KernelIdeal.Roi

end

end
-- ==== Proof.Bridge.lean ====
/- What the body stores is the four regions' pieces. -/
module

public import proofs.«01_k».proof.Proof.Vocab

@[expose] public section

noncomputable section

namespace Cert.KernelIdeal.Roi

open Idealize.ShloMosaic Idealize.ShloMosaic.TcCoe Cert.KernelIdeal.Gen

variable {F : FTy → Type} [FloatOps F] [Named F]
variable (x0 : Vec F S1x1x64x64 .f32) (x1 : Vec F S1x2x64x64 .f32) (x2 : Vec F S1x4x64x64 .f32) (x3 : Vec F S1x64x64x128 .f32)
  (x4 : Vec F S1x20x64x128 .f32) (x5 : Vec F S4x128 .f32) (x6 : Vec F S1x128 .f32) (x7 : Vec F S128x128 .f32)
  (x8 : Vec F S128x1 .f32) (x9 : Vec F S25x14 .f32)

/-- The block after the body: the four stores' pieces. -/
theorem out_eq : out0_10 x0 x1 x2 x3 x4 x5 x6 x7 x8 x9 = View.canon
    [⟨r0_17, piece x0 x1 x2 x3 x4 x5 x6 x7 x8 x9 3 slices_S80x64x128_o60_0_0_S20x64x128 slices_S80x20x128_o60_0_0_S20x20x128⟩,
     ⟨r0_16, piece x0 x1 x2 x3 x4 x5 x6 x7 x8 x9 2 slices_S80x64x128_o40_0_0_S20x64x128 slices_S80x20x128_o40_0_0_S20x20x128⟩,
     ⟨r0_15, piece x0 x1 x2 x3 x4 x5 x6 x7 x8 x9 1 slices_S80x64x128_o20_0_0_S20x64x128 slices_S80x20x128_o20_0_0_S20x20x128⟩,
     ⟨r0_14, piece x0 x1 x2 x3 x4 x5 x6 x7 x8 x9 0 slices_S80x64x128_o0_0_0_S20x64x128 slices_S80x20x128_o0_0_0_S20x20x128⟩] := rfl

end Cert.KernelIdeal.Roi

end

end
-- ==== Proof.Array.lean ====
/- The kernel's result array: the blocks hold the arrays' frames, and the blocks written back make the array. -/
module

public import proofs.«01_k».proof.Proof.Block
public import proofs.«01_k».proof.Proof.Bridge
public import Idealize.ShloMosaic.Lib.Pipeline.ValueKit
public import Idealize.ShloMosaic.Lib.StableHlo.ReadAt

@[expose] public section

noncomputable section

namespace Cert.KernelIdeal.Roi

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The frame's data in a memory. -/
def dataAt (n : Fin 40) : Spec.Data :=
  Spec.dataOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) n

/-- What the result array holds. -/
def result : Buf (Elt Ideal) ((c : Thread nD τ).loc main_v0) := fun i : S40x4x128x14.Idx =>
  (dataAt m c (i 0)).result (i 1) (i 2) (i 3)

/-! ## The arrays the region finds -/

/-- The first branch's maps reach the call with their channels last. -/
theorem V_feats (i : S40x64x64x128.Idx) : V m c main_call0_v0 i = m ((c : Thread nD τ).loc main_arg3) (ix4 (i 0) (i 3) (i 1) (i 2)) := by
  unfold V hostOps0
  after_reads_at
/-- The embedding's weights reach it transposed. -/
theorem V_ew (i : S4x128.Idx) : V m c main_call0_v7 i = m ((c : Thread nD τ).loc main_arg5) (ix2 (i 1) (i 0)) := by
  unfold V hostOps0
  after_reads_at
/-- The embedding's bias reaches it as a row. -/
theorem V_eb (i : S1x128.Idx) : V m c main_call0_v8 i = m ((c : Thread nD τ).loc main_arg6) (ix1 (i 1)) := by
  unfold V hostOps0
  after_reads_at
/-- The projection's bias reaches it as a column. -/
theorem V_pb (i : S128x1.Idx) : V m c main_call0_v9 i = m ((c : Thread nD τ).loc main_arg8) (ix1 (i 0)) := by
  unfold V hostOps0
  after_reads_at

/-- The word of the pooling table at row `b`, column `t`. -/
def poolWord (b : Fin 25) (t : Fin 14) : BitVec 32 :=
  if t.val * 25 / 14 ≤ b.val ∧ b.val < (t.val * 25 + 38) / 14 then
    (if (t.val * 25 + 38) / 14 - t.val * 25 / 14 = 3 then 0x3EAAAAAB#32 else 0x3F000000#32) else 0#32

set_option maxRecDepth 100000 in
/-- The kernel's pooling constants, one by one. -/
theorem lit1_eq : ∀ (b : Fin 25) (t : Fin 14), lit1 (S25x14.rowMajor (ix2 b t)) = poolWord b t := by
  decide +kernel

/-- They are the table's weights. -/
theorem word_poolWord (b : Fin 25) (t : Fin 14) : Spec.word (poolWord b t) = Spec.pool b t := by
  unfold poolWord Spec.pool
  split_ifs
  · rfl
  · rfl
  · simp [Spec.word, Ideal.ofBits, Ideal.ieee]

/-- The pooling table reaches the call. -/
theorem V_pool (b : Fin 25) (t : Fin 14) : V m c main_call0_cst (ix2 b t) = Spec.pool b t := by
  unfold V hostOps0
  after_reads_at
  rw [← word_poolWord, ← lit1_eq]

/-- The gather of rows: row `k` is the row that index `k` names. -/
theorem gather_rows (x : FVec Ideal S40x128x64x64 .f32) (idx : IVec S20x1 32) (n : Fin 40) (o : Fin 128) (k : Fin 20) (q y : Fin 64)
    (h : min (idx (ix2 k 0)).toInt.toNat 63 = y.val) :
    Host.gather gather_S40x128x64x64_S20x1_S40x128x20x64_013_2_n_n_2_1_40128164 x idx (ix4 n o k q) = x (ix4 n o y q) := by
  show x (GatherDims.operandIdx _ _ _) = _
  congr 1
  have hs : gather_S40x128x64x64_S20x1_S40x128x20x64_013_2_n_n_2_1_40128164.siIdx (ix4 n o k q) ⟨0, by decide⟩ = ix2 k 0 := by
    funext a; fin_cases a <;> rfl
  funext a
  apply Fin.ext
  fin_cases a
  · show 0 + 0 + n.val = n.val
    omega
  · show 0 + 0 + o.val = o.val
    omega
  · show min (idx (GatherDims.siIdx _ _ _)).toInt.toNat 63 + 0 + 0 = y.val
    exact (congrArg (fun z => min (idx z).toInt.toNat 63) hs).trans h
  · show 0 + 0 + q.val = q.val
    omega

set_option maxRecDepth 100000 in
/-- The kernel's constant rows of the second branch, one by one. -/
theorem lit0_eq : ∀ k : Fin 20, min (lit0 (S20.rowMajor (ix1 k))).toInt.toNat 63 = (vrow k).val := by
  decide +kernel

/-- The second branch's maps reach the call with these rows only, and their channels last. -/
theorem V_rows (n : Fin 40) (k : Fin 20) (q : Fin 64) (o : Fin 128) :
    V m c main_call0_v6 (ix4 n k q o) = m ((c : Thread nD τ).loc main_arg4) (ix4 n o (vrow k) q) := by
  unfold V hostOps0
  after_reads_at
  refine gather_rows _ _ n o k q (vrow k) ?_
  rw [← lit0_eq]
  congr 3

/-! ## The blocks -/

/-- Window 0 of step `t` is block `t` of its array. -/
theorem e0 (t : Fin cfg0.N) : win0_0.index t = ![t.val, 0, 0, 0] := by
  revert t; decide +kernel
/-- Window 1 of step `t` is block `t` of its array. -/
theorem e1 (t : Fin cfg0.N) : win0_1.index t = ![t.val, 0, 0, 0] := by
  revert t; decide +kernel
/-- Window 2 of step `t` is block `t` of its array. -/
theorem e2 (t : Fin cfg0.N) : win0_2.index t = ![t.val, 0, 0, 0] := by
  revert t; decide +kernel
/-- Window 3 of step `t` is block `t` of its array. -/
theorem e3 (t : Fin cfg0.N) : win0_3.index t = ![t.val, 0, 0, 0] := by
  revert t; decide +kernel
/-- Window 4 of step `t` is block `t` of its array. -/
theorem e4 (t : Fin cfg0.N) : win0_4.index t = ![t.val, 0, 0, 0] := by
  revert t; decide +kernel
/-- The result's window at step `t` is block `t`. -/
theorem e10 (t : Fin cfg0.N) : win0_10.index t = ![t.val, 0, 0, 0] := by
  revert t; decide +kernel
/-- Window 5 is the whole of its array. -/
theorem e5 (t : Fin cfg0.N) : win0_5.index t = ![0, 0] := by
  revert t; decide +kernel
/-- Window 6 is the whole of its array. -/
theorem e6 (t : Fin cfg0.N) : win0_6.index t = ![0, 0] := by
  revert t; decide +kernel
/-- Window 7 is the whole of its array. -/
theorem e7 (t : Fin cfg0.N) : win0_7.index t = ![0, 0] := by
  revert t; decide +kernel
/-- Window 8 is the whole of its array. -/
theorem e8 (t : Fin cfg0.N) : win0_8.index t = ![0, 0] := by
  revert t; decide +kernel
/-- Window 9 is the whole of its array. -/
theorem e9 (t : Fin cfg0.N) : win0_9.index t = ![0, 0] := by
  revert t; decide +kernel

/-- Step `t` sees the heat map of frame `t`, -/
theorem blk0 (t : Fin 40) (k : Fin 1) (y x : Fin 64) : (iblk m c 0 t : Vec Ideal S1x1x64x64 .f32) (ix4 0 k y x) = m ((c : Thread nD τ).loc main_arg0) (ix4 t k y x) := by
  refine Eq.trans ?_ (congrFun (V_main_arg0 m c) (ix4 t k y x))
  show V m c main_arg0 (((cfg0.win 0).blk t).view.emb _) = _
  congr 1
  blk_ext [(e0 t : (cfg0.win 0).index t = _)]

/-- its offsets, -/
theorem blk1 (t : Fin 40) (k : Fin 2) (y x : Fin 64) : (iblk m c 1 t : Vec Ideal S1x2x64x64 .f32) (ix4 0 k y x) = m ((c : Thread nD τ).loc main_arg1) (ix4 t k y x) := by
  refine Eq.trans ?_ (congrFun (V_main_arg1 m c) (ix4 t k y x))
  show V m c main_arg1 (((cfg0.win 1).blk t).view.emb _) = _
  congr 1
  blk_ext [(e1 t : (cfg0.win 1).index t = _)]

/-- its sizes, -/
theorem blk2 (t : Fin 40) (k : Fin 4) (y x : Fin 64) : (iblk m c 2 t : Vec Ideal S1x4x64x64 .f32) (ix4 0 k y x) = m ((c : Thread nD τ).loc main_arg2) (ix4 t k y x) := by
  refine Eq.trans ?_ (congrFun (V_main_arg2 m c) (ix4 t k y x))
  show V m c main_arg2 (((cfg0.win 2).blk t).view.emb _) = _
  congr 1
  blk_ext [(e2 t : (cfg0.win 2).index t = _)]

/-- its first feature map, -/
theorem blk3 (t : Fin 40) (y x : Fin 64) (k : Fin 128) : (iblk m c 3 t : Vec Ideal S1x64x64x128 .f32) (ix4 0 y x k) = m ((c : Thread nD τ).loc main_arg3) (ix4 t k y x) := by
  refine Eq.trans ?_ (V_feats m c (ix4 t y x k))
  show V m c main_call0_v0 (((cfg0.win 3).blk t).view.emb _) = _
  congr 1
  blk_ext [(e3 t : (cfg0.win 3).index t = _)]

/-- the chosen rows of its second, -/
theorem blk4 (t : Fin 40) (y : Fin 20) (x : Fin 64) (k : Fin 128) : (iblk m c 4 t : Vec Ideal S1x20x64x128 .f32) (ix4 0 y x k) = m ((c : Thread nD τ).loc main_arg4) (ix4 t k (vrow y) x) := by
  refine Eq.trans ?_ (V_rows m c t y x k)
  show V m c main_call0_v6 (((cfg0.win 4).blk t).view.emb _) = _
  congr 1
  blk_ext [(e4 t : (cfg0.win 4).index t = _)]

/-- the embedding's weights -/
theorem blk5 (t : Fin 40) (j : Fin 4) (k : Fin 128) : (iblk m c 5 t : Vec Ideal S4x128 .f32) (ix2 j k) = m ((c : Thread nD τ).loc main_arg5) (ix2 k j) := by
  refine Eq.trans ?_ (V_ew m c (ix2 j k))
  show V m c main_call0_v7 (((cfg0.win 5).blk t).view.emb _) = _
  congr 1
  blk_ext [(e5 t : (cfg0.win 5).index t = _)]

/-- and bias, -/
theorem blk6 (t : Fin 40) (k : Fin 128) : (iblk m c 6 t : Vec Ideal S1x128 .f32) (ix2 0 k) = m ((c : Thread nD τ).loc main_arg6) (ix1 k) := by
  refine Eq.trans ?_ (V_eb m c (ix2 0 k))
  show V m c main_call0_v8 (((cfg0.win 6).blk t).view.emb _) = _
  congr 1
  blk_ext [(e6 t : (cfg0.win 6).index t = _)]

/-- the projection's weights -/
theorem blk7 (t : Fin 40) (o k : Fin 128) : (iblk m c 7 t : Vec Ideal S128x128 .f32) (ix2 o k) = m ((c : Thread nD τ).loc main_arg7) (ix2 o k) := by
  refine Eq.trans ?_ (congrFun (V_main_arg7 m c) (ix2 o k))
  show V m c main_arg7 (((cfg0.win 7).blk t).view.emb _) = _
  congr 1
  blk_ext [(e7 t : (cfg0.win 7).index t = _)]

/-- and bias, -/
theorem blk8 (t : Fin 40) (o : Fin 128) : (iblk m c 8 t : Vec Ideal S128x1 .f32) (ix2 o 0) = m ((c : Thread nD τ).loc main_arg8) (ix1 o) := by
  refine Eq.trans ?_ (V_pb m c (ix2 o 0))
  show V m c main_call0_v9 (((cfg0.win 8).blk t).view.emb _) = _
  congr 1
  blk_ext [(e8 t : (cfg0.win 8).index t = _)]

/-- and the pooling table. -/
theorem blk9 (t : Fin 40) (b : Fin 25) (y : Fin 14) : (iblk m c 9 t : Vec Ideal S25x14 .f32) (ix2 b y) = Spec.pool b y := by
  refine Eq.trans ?_ (V_pool m c b y)
  show V m c main_call0_cst (((cfg0.win 9).blk t).view.emb _) = _
  congr 1
  blk_ext [(e9 t : (cfg0.win 9).index t = _)]

/-- The blocks of frame `t` hold that frame's data. -/
theorem holds (t : Fin 40) : Holds (dataAt m c t) (iblk m c 0 t) (iblk m c 1 t) (iblk m c 2 t) (iblk m c 3 t) (iblk m c 4 t)
    (iblk m c 5 t) (iblk m c 6 t) (iblk m c 7 t) (iblk m c 8 t) (iblk m c 9 t) where
  hm y x := by
    refine (blk0 m c t 0 y x).trans ?_
    show _ = m ((c : Thread nD τ).loc main_arg0) (ix4 t 0 (Spec.rowOf (Spec.cellOf y x)) (Spec.colOf (Spec.cellOf y x)))
    rw [Spec.rowOf_cellOf, Spec.colOf_cellOf]
  off k y x := blk1 m c t k y x
  bs k y x := blk2 m c t k y x
  fh k y x := blk3 m c t y x k
  fv k y x := blk4 m c t y x k
  ew j k := blk5 m c t j k
  eb k := blk6 m c t k
  pw o k := blk7 m c t o k
  pb o := blk8 m c t o
  pool b y := blk9 m c t b y

/-- The result array after the last frame. -/
theorem final : (dats m 0 c).arrAt 10 cfg0.N = result m c := by
  refine (dats m 0 c).arrAt_eq_of_covers 10 _ (by decide +kernel) fun t hf y => ?_
  blk_simp
  rw [after0_10, out_eq]
  have hG : ∀ (r : Nat) (hr : r < 4) (h h') (z : S1x1x128x14.Idx) (y' : S1x4x128x14.Idx), (y' 1).val = r → (y' 2).val = (z 2).val →
      (y' 3).val = (z 3).val → piece (iblk m c 0 t) (iblk m c 1 t) (iblk m c 2 t) (iblk m c 3 t) (iblk m c 4 t) (iblk m c 5 t) (iblk m c 6 t)
        (iblk m c 7 t) (iblk m c 8 t) (iblk m c 9 t) r h h' z = result m c ((win0_10.blk t).view.emb y') := by
    intro r hr h h' z y' h1 h2 h3
    have hz : z = ix4 0 0 (z 2) (z 3) := by
      funext a; fin_cases a
      · exact Subsingleton.elim (α := Fin 1) _ _
      · exact Subsingleton.elim (α := Fin 1) _ _
      · rfl
      · rfl
    have hy : (win0_10.blk t).view.emb y' = ix4 (t : Fin 40) (⟨r, hr⟩ : Fin 4) (z 2) (z 3) := by
      have h0 : (y' 0).val < 1 := (y' 0).isLt
      funext a
      apply Fin.ext
      fin_cases a
      · show ((win0_10.blk t).view.emb y' 0).val = t.val
        blk_simp [e10 t]
      · show ((win0_10.blk t).view.emb y' 1).val = r
        blk_simp [e10 t]
        assumption
      · show ((win0_10.blk t).view.emb y' 2).val = (z 2).val
        blk_simp [e10 t]
        assumption
      · show ((win0_10.blk t).view.emb y' 3).val = (z 3).val
        blk_simp [e10 t]
        assumption
    exact (congrArg _ hz).trans ((piece_at (holds m c t) r hr h h' (z 2) (z 3)).trans (congrArg (result m c) hy).symm)
  refine View.canon_apply_of_pieces (fun y => result m c ((win0_10.blk t).view.emb y)) _ ?_ y ?_
  · intro p hp z
    simp only [List.mem_cons, List.not_mem_nil, or_false] at hp
    rcases hp with rfl | rfl | rfl | rfl
    · refine hG 3 (by decide) _ _ z _ ?_ ?_ ?_
      · show 3 + 1 * (z 1).val = 3
        have z1 : (z 1).val < 1 := (z 1).isLt
        omega
      · show 0 + 1 * (z 2).val = (z 2).val
        omega
      · show 0 + 1 * (z 3).val = (z 3).val
        omega
    · refine hG 2 (by decide) _ _ z _ ?_ ?_ ?_
      · show 2 + 1 * (z 1).val = 2
        have z1 : (z 1).val < 1 := (z 1).isLt
        omega
      · show 0 + 1 * (z 2).val = (z 2).val
        omega
      · show 0 + 1 * (z 3).val = (z 3).val
        omega
    · refine hG 1 (by decide) _ _ z _ ?_ ?_ ?_
      · show 1 + 1 * (z 1).val = 1
        have z1 : (z 1).val < 1 := (z 1).isLt
        omega
      · show 0 + 1 * (z 2).val = (z 2).val
        omega
      · show 0 + 1 * (z 3).val = (z 3).val
        omega
    · refine hG 0 (by decide) _ _ z _ ?_ ?_ ?_
      · show 0 + 1 * (z 1).val = 0
        have z1 : (z 1).val < 1 := (z 1).isLt
        omega
      · show 0 + 1 * (z 2).val = (z 2).val
        omega
      · show 0 + 1 * (z 3).val = (z 3).val
        omega
  · have hm : ∀ (q : Nat) (hq : ∀ a, (![0, q, 0, 0] : Fin 4 → Nat) a + S1x1x128x14.size a ≤ S1x4x128x14.size a), (y 1).val = q →
        y ∈ (Rect.unit (s := S1x4x128x14) ![0, q, 0, 0] S1x1x128x14.size hq).set := by
      intro q hq h1
      have h0 : (y 0).val < 1 := (y 0).isLt
      rw [← Rect.map_emb_univ]
      refine Finset.mem_map.2 ⟨(ix4 (0 : Fin 1) (0 : Fin 1) (y 2 : Fin 128) (y 3 : Fin 14) : S1x1x128x14.Idx), Finset.mem_univ _, ?_⟩
      funext a
      apply Fin.ext
      fin_cases a
      · show 0 + 1 * 0 = (y 0).val
        omega
      · show q + 1 * 0 = (y 1).val
        omega
      · show 0 + 1 * (y 2).val = (y 2).val
        omega
      · show 0 + 1 * (y 3).val = (y 3).val
        omega
    have h4 : (y 1).val < 4 := (y 1).isLt
    rcases (by omega : (y 1).val = 3 ∨ (y 1).val = 2 ∨ (y 1).val = 1 ∨ (y 1).val = 0) with h | h | h | h
    · exact ⟨_, List.mem_cons_self, hm 3 (by decide) h⟩
    · exact ⟨_, List.mem_cons_of_mem _ List.mem_cons_self, hm 2 (by decide) h⟩
    · exact ⟨_, List.mem_cons_of_mem _ (List.mem_cons_of_mem _ List.mem_cons_self), hm 1 (by decide) h⟩
    · exact ⟨_, List.mem_cons_of_mem _ (List.mem_cons_of_mem _ (List.mem_cons_of_mem _ List.mem_cons_self)), hm 0 (by decide) h⟩

end Cert.KernelIdeal.Roi

end

end
-- ==== Proof.Steps.lean ====
/- The reference program as a list of its operations, cut where a value is read; each stretch keeps what it does not write. -/
module

public import proofs.«01_k».proof.Proof.Gen.ReferenceIdeal
public import Idealize.ShloMosaic.Lib.StableHlo.Run
public import Idealize.ShloMosaic.Lib.StableHlo.ReadAt
public import Idealize.ShloMosaic.Lib.Pipeline.Frame

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-! ## Arrays joined -/

/-- Two rows joined into the array of both axes. -/
def twoAxes {e : EltTy} (a b : (⟨S40x1x4, e⟩ : BufTy).Contents (Elt F)) : (⟨S40x2x4, e⟩ : BufTy).Contents (Elt F) :=
  concatenate S40x2x4 1 [⟨S40x1x4, a⟩, ⟨S40x1x4, b⟩] concatenates_S40x1x4_S40x1x4_S40x2x4_d1
/-- The two feature maps, one after the other. -/
def twoMaps (a b : (⟨S40x128x64x64, .f32⟩ : BufTy).Contents (Elt F)) : (⟨S80x128x64x64, .f32⟩ : BufTy).Contents (Elt F) :=
  concatenate S80x128x64x64 0 [⟨S40x128x64x64, a⟩, ⟨S40x128x64x64, b⟩] concatenates_S40x128x64x64_S40x128x64x64_S80x128x64x64_d0
/-- The two branches' sides, one after the other. -/
def twoBranches (a b : (⟨S40x2x4, .f32⟩ : BufTy).Contents (Elt F)) : (⟨S80x2x4, .f32⟩ : BufTy).Contents (Elt F) :=
  concatenate S80x2x4 0 [⟨S40x2x4, a⟩, ⟨S40x2x4, b⟩] concatenates_S40x2x4_S40x2x4_S80x2x4_d0
/-- The near sides, then the far ones. -/
def corners (a b : (⟨S80x2x4, .f32⟩ : BufTy).Contents (Elt F)) : (⟨S80x4x4, .f32⟩ : BufTy).Contents (Elt F) :=
  concatenate S80x4x4 1 [⟨S80x2x4, a⟩, ⟨S80x2x4, b⟩] concatenates_S80x2x4_S80x2x4_S80x4x4_d1

/-! ## The stretches -/

/-- Stretch 0: the peaks. -/
abbrev w0 : List (HloOp τ sig (Elt F)) :=
  [ reshape main_arg0 main_v0 (rfl : (.f32 : EltTy) = .f32) shapeCasts_S40x1x64x64_S40x4096,
    unary main_v0 main_values ((fun x => (Host.topK S40x4 1 (FloatOps.cmpfTotal .gt) x sliceFits_S40x4096_S40x4).1) : (⟨S40x4096, .f32⟩ : BufTy).Contents (Elt F) → (⟨S40x4, .f32⟩ : BufTy).Contents (Elt F)),
    unary main_v0 main_indices ((fun x => (Host.topK S40x4 1 (FloatOps.cmpfTotal .gt) x sliceFits_S40x4096_S40x4).2) : (⟨S40x4096, .f32⟩ : BufTy).Contents (Elt F) → (⟨S40x4, .i32⟩ : BufTy).Contents (Elt F)) ]

/-- What it writes. -/
abbrev w0_W : List (Ref sig .tc) :=
  [main_v0, main_values, main_indices]

/-- Stretch 1: the near and far sides of their boxes. -/
abbrev w1 : List (HloOp τ sig (Elt F)) :=
  [ nullary main_c (constantI S_ 32 64#32),
    unary main_c main_v1 (broadcastInDim S40x4 ![] bcast_S_S40x4 : (⟨S_, .i32⟩ : BufTy).Contents (Elt F) → (⟨S40x4, .i32⟩ : BufTy).Contents (Elt F)),
    binary main_indices main_v1 main_v2 (Host.remsi : (⟨S40x4, .i32⟩ : BufTy).Contents (Elt F) → (⟨S40x4, .i32⟩ : BufTy).Contents (Elt F) → (⟨S40x4, .i32⟩ : BufTy).Contents (Elt F)),
    nullary main_c_0 (constantI S_ 32 64#32),
    unary main_c_0 main_v3 (broadcastInDim S40x4 ![] bcast_S_S40x4 : (⟨S_, .i32⟩ : BufTy).Contents (Elt F) → (⟨S40x4, .i32⟩ : BufTy).Contents (Elt F)),
    binary main_indices main_v3 main_v4 (Host.divsi : (⟨S40x4, .i32⟩ : BufTy).Contents (Elt F) → (⟨S40x4, .i32⟩ : BufTy).Contents (Elt F) → (⟨S40x4, .i32⟩ : BufTy).Contents (Elt F)),
    unary main_v2 main_v5 (broadcastInDim S40x1x4 ![0, 2] bcast_S40x4_S40x1x4_0_2 : (⟨S40x4, .i32⟩ : BufTy).Contents (Elt F) → (⟨S40x1x4, .i32⟩ : BufTy).Contents (Elt F)),
    unary main_v4 main_v6 (broadcastInDim S40x1x4 ![0, 2] bcast_S40x4_S40x1x4_0_2 : (⟨S40x4, .i32⟩ : BufTy).Contents (Elt F) → (⟨S40x1x4, .i32⟩ : BufTy).Contents (Elt F)),
    binary main_v5 main_v6 main_v7 (twoAxes (F := F) (e := .i32)),
    reshape main_arg1 main_v8 (rfl : (.f32 : EltTy) = .f32) shapeCasts_S40x2x64x64_S40x2x4096,
    unary main_indices main_v9 (broadcastInDim S40x4x1 ![0, 1] bcast_S40x4_S40x4x1_0_1 : (⟨S40x4, .i32⟩ : BufTy).Contents (Elt F) → (⟨S40x4x1, .i32⟩ : BufTy).Contents (Elt F)),
    binary main_v8 main_v9 main_v10 ((fun x i => Host.gather gather_S40x2x4096_S40x4x1_S40x2x4_1_2_0_0_2_2_121 x i) : (⟨S40x2x4096, .f32⟩ : BufTy).Contents (Elt F) → (⟨S40x4x1, .i32⟩ : BufTy).Contents (Elt F) → (⟨S40x2x4, .f32⟩ : BufTy).Contents (Elt F)),
    reshape main_arg2 main_v11 (rfl : (.f32 : EltTy) = .f32) shapeCasts_S40x4x64x64_S40x4x4096,
    unary main_indices main_v12 (broadcastInDim S40x4x1 ![0, 1] bcast_S40x4_S40x4x1_0_1 : (⟨S40x4, .i32⟩ : BufTy).Contents (Elt F) → (⟨S40x4x1, .i32⟩ : BufTy).Contents (Elt F)),
    binary main_v11 main_v12 main_v13 ((fun x i => Host.gather gather_S40x4x4096_S40x4x1_S40x4x4_1_2_0_0_2_2_141 x i) : (⟨S40x4x4096, .f32⟩ : BufTy).Contents (Elt F) → (⟨S40x4x1, .i32⟩ : BufTy).Contents (Elt F) → (⟨S40x4x4, .f32⟩ : BufTy).Contents (Elt F)),
    unary main_v7 main_v14 (sitofp .f32 : (⟨S40x2x4, .i32⟩ : BufTy).Contents (Elt F) → (⟨S40x2x4, .f32⟩ : BufTy).Contents (Elt F)),
    binary main_v14 main_v10 main_v15 (addf : (⟨S40x2x4, .f32⟩ : BufTy).Contents (Elt F) → (⟨S40x2x4, .f32⟩ : BufTy).Contents (Elt F) → (⟨S40x2x4, .f32⟩ : BufTy).Contents (Elt F)),
    nullary main_cst (constant S_ .f32 0x40800000#32),
    unary main_cst main_v16 (broadcastInDim S40x2x4 ![] bcast_S_S40x2x4 : (⟨S_, .f32⟩ : BufTy).Contents (Elt F) → (⟨S40x2x4, .f32⟩ : BufTy).Contents (Elt F)),
    binary main_v15 main_v16 main_v17 (mulf : (⟨S40x2x4, .f32⟩ : BufTy).Contents (Elt F) → (⟨S40x2x4, .f32⟩ : BufTy).Contents (Elt F) → (⟨S40x2x4, .f32⟩ : BufTy).Contents (Elt F)),
    unary main_v13 main_v18 ((extractStridedSlice S40x2x4 ![0, 0, 0] · slices_S40x4x4_S40x2x4_0_0_0) : (⟨S40x4x4, .f32⟩ : BufTy).Contents (Elt F) → (⟨S40x2x4, .f32⟩ : BufTy).Contents (Elt F)),
    unary main_v13 main_v19 ((extractStridedSlice S40x2x4 ![0, 2, 0] · slices_S40x4x4_S40x2x4_0_2_0) : (⟨S40x4x4, .f32⟩ : BufTy).Contents (Elt F) → (⟨S40x2x4, .f32⟩ : BufTy).Contents (Elt F)),
    binary main_v18 main_v19 main_v20 (addf : (⟨S40x2x4, .f32⟩ : BufTy).Contents (Elt F) → (⟨S40x2x4, .f32⟩ : BufTy).Contents (Elt F) → (⟨S40x2x4, .f32⟩ : BufTy).Contents (Elt F)),
    nullary main_cst_1 (constant S_ .f32 0x40000000#32),
    unary main_cst_1 main_v21 (broadcastInDim S40x2x4 ![] bcast_S_S40x2x4 : (⟨S_, .f32⟩ : BufTy).Contents (Elt F) → (⟨S40x2x4, .f32⟩ : BufTy).Contents (Elt F)),
    binary main_v20 main_v21 main_v22 (Host.divf : (⟨S40x2x4, .f32⟩ : BufTy).Contents (Elt F) → (⟨S40x2x4, .f32⟩ : BufTy).Contents (Elt F) → (⟨S40x2x4, .f32⟩ : BufTy).Contents (Elt F)),
    binary main_v17 main_v22 main_v23 (subf : (⟨S40x2x4, .f32⟩ : BufTy).Contents (Elt F) → (⟨S40x2x4, .f32⟩ : BufTy).Contents (Elt F) → (⟨S40x2x4, .f32⟩ : BufTy).Contents (Elt F)),
    nullary main_cst_2 (constant S_ .f32 0x3E800000#32),
    unary main_cst_2 main_v24 (broadcastInDim S40x2x4 ![] bcast_S_S40x2x4 : (⟨S_, .f32⟩ : BufTy).Contents (Elt F) → (⟨S40x2x4, .f32⟩ : BufTy).Contents (Elt F)),
    binary main_v23 main_v24 main_v25 (mulf : (⟨S40x2x4, .f32⟩ : BufTy).Contents (Elt F) → (⟨S40x2x4, .f32⟩ : BufTy).Contents (Elt F) → (⟨S40x2x4, .f32⟩ : BufTy).Contents (Elt F)),
    binary main_v17 main_v22 main_v26 (addf : (⟨S40x2x4, .f32⟩ : BufTy).Contents (Elt F) → (⟨S40x2x4, .f32⟩ : BufTy).Contents (Elt F) → (⟨S40x2x4, .f32⟩ : BufTy).Contents (Elt F)),
    nullary main_cst_3 (constant S_ .f32 0x3E800000#32),
    unary main_cst_3 main_v27 (broadcastInDim S40x2x4 ![] bcast_S_S40x2x4 : (⟨S_, .f32⟩ : BufTy).Contents (Elt F) → (⟨S40x2x4, .f32⟩ : BufTy).Contents (Elt F)),
    binary main_v26 main_v27 main_v28 (mulf : (⟨S40x2x4, .f32⟩ : BufTy).Contents (Elt F) → (⟨S40x2x4, .f32⟩ : BufTy).Contents (Elt F) → (⟨S40x2x4, .f32⟩ : BufTy).Contents (Elt F)) ]

/-- What it writes. -/
abbrev w1_W : List (Ref sig .tc) :=
  [main_c, main_v1, main_v2, main_c_0, main_v3, main_v4, main_v5, main_v6, main_v7, main_v8, main_v9, main_v10, main_v11, main_v12, main_v13, main_v14, main_v15, main_cst, main_v16, main_v17, main_v18, main_v19, main_v20, main_cst_1, main_v21, main_v22, main_v23, main_cst_2, main_v24, main_v25, main_v26, main_cst_3, main_v27, main_v28]

/-- Stretch 2: both branches' feature maps and boxes. -/
abbrev w2 : List (HloOp τ sig (Elt F)) :=
  [ unary main_v25 main_v29 ((extractStridedSlice S40x1x4 ![0, 0, 0] · slices_S40x2x4_S40x1x4_0_0_0) : (⟨S40x2x4, .f32⟩ : BufTy).Contents (Elt F) → (⟨S40x1x4, .f32⟩ : BufTy).Contents (Elt F)),
    unary main_v25 main_v30 ((extractStridedSlice S40x1x4 ![0, 0, 0] · slices_S40x2x4_S40x1x4_0_0_0) : (⟨S40x2x4, .f32⟩ : BufTy).Contents (Elt F) → (⟨S40x1x4, .f32⟩ : BufTy).Contents (Elt F)),
    nullary main_cst_4 (constant S_ .f32 0x00000000#32),
    unary main_cst_4 main_v31 (broadcastInDim S40x1x4 ![] bcast_S_S40x1x4 : (⟨S_, .f32⟩ : BufTy).Contents (Elt F) → (⟨S40x1x4, .f32⟩ : BufTy).Contents (Elt F)),
    binary main_v29 main_v31 main_v32 (twoAxes (F := F) (e := .f32)),
    unary main_v28 main_v33 ((extractStridedSlice S40x1x4 ![0, 0, 0] · slices_S40x2x4_S40x1x4_0_0_0) : (⟨S40x2x4, .f32⟩ : BufTy).Contents (Elt F) → (⟨S40x1x4, .f32⟩ : BufTy).Contents (Elt F)),
    unary main_v28 main_v34 ((extractStridedSlice S40x1x4 ![0, 0, 0] · slices_S40x2x4_S40x1x4_0_0_0) : (⟨S40x2x4, .f32⟩ : BufTy).Contents (Elt F) → (⟨S40x1x4, .f32⟩ : BufTy).Contents (Elt F)),
    nullary main_cst_5 (constant S_ .f32 0x42800000#32),
    unary main_cst_5 main_v35 (broadcastInDim S40x1x4 ![] bcast_S_S40x1x4 : (⟨S_, .f32⟩ : BufTy).Contents (Elt F) → (⟨S40x1x4, .f32⟩ : BufTy).Contents (Elt F)),
    binary main_v33 main_v35 main_v36 (twoAxes (F := F) (e := .f32)),
    binary main_arg3 main_arg4 main_v37 (twoMaps (F := F)),
    reshape main_v37 main_v38 (rfl : (.f32 : EltTy) = .f32) shapeCasts_S80x128x64x64_S80x128x4096,
    binary main_v25 main_v32 main_v39 (twoBranches (F := F)),
    binary main_v28 main_v36 main_v40 (twoBranches (F := F)) ]

/-- What it writes. -/
abbrev w2_W : List (Ref sig .tc) :=
  [main_v29, main_v30, main_cst_4, main_v31, main_v32, main_v33, main_v34, main_cst_5, main_v35, main_v36, main_v37, main_v38, main_v39, main_v40]

/-- Stretch 3: the bin of a sample and its number there. -/
abbrev w3 : List (HloOp τ sig (Elt F)) :=
  [ nullary main_v41 (iotaInDim S10 32 0),
    nullary main_c_6 (constantI S_ 32 2#32),
    unary main_c_6 main_v42 (broadcastInDim S10 ![] bcast_S_S10 : (⟨S_, .i32⟩ : BufTy).Contents (Elt F) → (⟨S10, .i32⟩ : BufTy).Contents (Elt F)),
    binary main_v41 main_v42 main_v43 (Host.divsi : (⟨S10, .i32⟩ : BufTy).Contents (Elt F) → (⟨S10, .i32⟩ : BufTy).Contents (Elt F) → (⟨S10, .i32⟩ : BufTy).Contents (Elt F)),
    unary main_v43 main_v44 (sitofp .f32 : (⟨S10, .i32⟩ : BufTy).Contents (Elt F) → (⟨S10, .f32⟩ : BufTy).Contents (Elt F)),
    nullary main_c_7 (constantI S_ 32 2#32),
    unary main_c_7 main_v45 (broadcastInDim S10 ![] bcast_S_S10 : (⟨S_, .i32⟩ : BufTy).Contents (Elt F) → (⟨S10, .i32⟩ : BufTy).Contents (Elt F)),
    binary main_v41 main_v45 main_v46 (Host.remsi : (⟨S10, .i32⟩ : BufTy).Contents (Elt F) → (⟨S10, .i32⟩ : BufTy).Contents (Elt F) → (⟨S10, .i32⟩ : BufTy).Contents (Elt F)),
    unary main_v46 main_v47 (sitofp .f32 : (⟨S10, .i32⟩ : BufTy).Contents (Elt F) → (⟨S10, .f32⟩ : BufTy).Contents (Elt F)) ]

/-- What it writes. -/
abbrev w3_W : List (Ref sig .tc) :=
  [main_v41, main_c_6, main_v42, main_v43, main_v44, main_c_7, main_v45, main_v46, main_v47]

/-- Stretch 4: the sampled coordinates. -/
abbrev w4 : List (HloOp τ sig (Elt F)) :=
  [ nullary main_cst_8 (constant S_ .f32 0x3F000000#32),
    unary main_cst_8 main_v48 (broadcastInDim S10 ![] bcast_S_S10 : (⟨S_, .f32⟩ : BufTy).Contents (Elt F) → (⟨S10, .f32⟩ : BufTy).Contents (Elt F)),
    binary main_v47 main_v48 main_v49 (addf : (⟨S10, .f32⟩ : BufTy).Contents (Elt F) → (⟨S10, .f32⟩ : BufTy).Contents (Elt F) → (⟨S10, .f32⟩ : BufTy).Contents (Elt F)),
    nullary main_cst_9 (constant S_ .f32 0x40000000#32),
    unary main_cst_9 main_v50 (broadcastInDim S10 ![] bcast_S_S10 : (⟨S_, .f32⟩ : BufTy).Contents (Elt F) → (⟨S10, .f32⟩ : BufTy).Contents (Elt F)),
    binary main_v49 main_v50 main_v51 (Host.divf : (⟨S10, .f32⟩ : BufTy).Contents (Elt F) → (⟨S10, .f32⟩ : BufTy).Contents (Elt F) → (⟨S10, .f32⟩ : BufTy).Contents (Elt F)),
    binary main_v44 main_v51 main_v52 (addf : (⟨S10, .f32⟩ : BufTy).Contents (Elt F) → (⟨S10, .f32⟩ : BufTy).Contents (Elt F) → (⟨S10, .f32⟩ : BufTy).Contents (Elt F)),
    unary main_v39 main_v53 (broadcastInDim S80x2x4x1 ![0, 1, 2] bcast_S80x2x4_S80x2x4x1_0_1_2 : (⟨S80x2x4, .f32⟩ : BufTy).Contents (Elt F) → (⟨S80x2x4x1, .f32⟩ : BufTy).Contents (Elt F)),
    binary main_v40 main_v39 main_v54 (subf : (⟨S80x2x4, .f32⟩ : BufTy).Contents (Elt F) → (⟨S80x2x4, .f32⟩ : BufTy).Contents (Elt F) → (⟨S80x2x4, .f32⟩ : BufTy).Contents (Elt F)),
    nullary main_cst_10 (constant S_ .f32 0x3F800000#32),
    unary main_cst_10 main_v55 (broadcastInDim S80x2x4 ![] bcast_S_S80x2x4 : (⟨S_, .f32⟩ : BufTy).Contents (Elt F) → (⟨S80x2x4, .f32⟩ : BufTy).Contents (Elt F)),
    binary main_v54 main_v55 main_v56 (maximumf : (⟨S80x2x4, .f32⟩ : BufTy).Contents (Elt F) → (⟨S80x2x4, .f32⟩ : BufTy).Contents (Elt F) → (⟨S80x2x4, .f32⟩ : BufTy).Contents (Elt F)),
    nullary main_cst_11 (constant S_ .f32 0x40A00000#32),
    unary main_cst_11 main_v57 (broadcastInDim S80x2x4 ![] bcast_S_S80x2x4 : (⟨S_, .f32⟩ : BufTy).Contents (Elt F) → (⟨S80x2x4, .f32⟩ : BufTy).Contents (Elt F)),
    binary main_v56 main_v57 main_v58 (Host.divf : (⟨S80x2x4, .f32⟩ : BufTy).Contents (Elt F) → (⟨S80x2x4, .f32⟩ : BufTy).Contents (Elt F) → (⟨S80x2x4, .f32⟩ : BufTy).Contents (Elt F)),
    unary main_v58 main_v59 (broadcastInDim S80x2x4x1 ![0, 1, 2] bcast_S80x2x4_S80x2x4x1_0_1_2 : (⟨S80x2x4, .f32⟩ : BufTy).Contents (Elt F) → (⟨S80x2x4x1, .f32⟩ : BufTy).Contents (Elt F)),
    unary main_v52 main_v60 (broadcastInDim S1x1x1x10 ![3] bcast_S10_S1x1x1x10_3 : (⟨S10, .f32⟩ : BufTy).Contents (Elt F) → (⟨S1x1x1x10, .f32⟩ : BufTy).Contents (Elt F)),
    unary main_v60 main_v61 (broadcastInDim S80x2x4x10 ![0, 1, 2, 3] bcast_S1x1x1x10_S80x2x4x10_0_1_2_3 : (⟨S1x1x1x10, .f32⟩ : BufTy).Contents (Elt F) → (⟨S80x2x4x10, .f32⟩ : BufTy).Contents (Elt F)),
    unary main_v59 main_v62 (broadcastInDim S80x2x4x10 ![0, 1, 2, 3] bcast_S80x2x4x1_S80x2x4x10_0_1_2_3 : (⟨S80x2x4x1, .f32⟩ : BufTy).Contents (Elt F) → (⟨S80x2x4x10, .f32⟩ : BufTy).Contents (Elt F)),
    binary main_v61 main_v62 main_v63 (mulf : (⟨S80x2x4x10, .f32⟩ : BufTy).Contents (Elt F) → (⟨S80x2x4x10, .f32⟩ : BufTy).Contents (Elt F) → (⟨S80x2x4x10, .f32⟩ : BufTy).Contents (Elt F)),
    unary main_v53 main_v64 (broadcastInDim S80x2x4x10 ![0, 1, 2, 3] bcast_S80x2x4x1_S80x2x4x10_0_1_2_3 : (⟨S80x2x4x1, .f32⟩ : BufTy).Contents (Elt F) → (⟨S80x2x4x10, .f32⟩ : BufTy).Contents (Elt F)),
    binary main_v64 main_v63 main_v65 (addf : (⟨S80x2x4x10, .f32⟩ : BufTy).Contents (Elt F) → (⟨S80x2x4x10, .f32⟩ : BufTy).Contents (Elt F) → (⟨S80x2x4x10, .f32⟩ : BufTy).Contents (Elt F)) ]

/-- What it writes. -/
abbrev w4_W : List (Ref sig .tc) :=
  [main_cst_8, main_v48, main_v49, main_cst_9, main_v50, main_v51, main_v52, main_v53, main_v54, main_cst_10, main_v55, main_v56, main_cst_11, main_v57, main_v58, main_v59, main_v60, main_v61, main_v62, main_v63, main_v64, main_v65]

/-- Stretch 5: their neighbours and the part after the point. -/
abbrev w5 : List (HloOp τ sig (Elt F)) :=
  [ nullary main_cst_12 (constant S_ .f32 0x00000000#32),
    unary main_cst_12 main_v66 (broadcastInDim S80x2x4x10 ![] bcast_S_S80x2x4x10 : (⟨S_, .f32⟩ : BufTy).Contents (Elt F) → (⟨S80x2x4x10, .f32⟩ : BufTy).Contents (Elt F)),
    binary main_v66 main_v65 main_v67 (maximumf : (⟨S80x2x4x10, .f32⟩ : BufTy).Contents (Elt F) → (⟨S80x2x4x10, .f32⟩ : BufTy).Contents (Elt F) → (⟨S80x2x4x10, .f32⟩ : BufTy).Contents (Elt F)),
    nullary main_cst_13 (constant S_ .f32 0x427C0000#32),
    unary main_cst_13 main_v68 (broadcastInDim S80x2x4x10 ![] bcast_S_S80x2x4x10 : (⟨S_, .f32⟩ : BufTy).Contents (Elt F) → (⟨S80x2x4x10, .f32⟩ : BufTy).Contents (Elt F)),
    binary main_v68 main_v67 main_v69 (minimumf : (⟨S80x2x4x10, .f32⟩ : BufTy).Contents (Elt F) → (⟨S80x2x4x10, .f32⟩ : BufTy).Contents (Elt F) → (⟨S80x2x4x10, .f32⟩ : BufTy).Contents (Elt F)),
    unary main_v69 main_v70 (Host.floor : (⟨S80x2x4x10, .f32⟩ : BufTy).Contents (Elt F) → (⟨S80x2x4x10, .f32⟩ : BufTy).Contents (Elt F)),
    unary main_v70 main_v71 (fptosi 32 : (⟨S80x2x4x10, .f32⟩ : BufTy).Contents (Elt F) → (⟨S80x2x4x10, .i32⟩ : BufTy).Contents (Elt F)),
    nullary main_c_14 (constantI S_ 32 1#32),
    unary main_c_14 main_v72 (broadcastInDim S80x2x4x10 ![] bcast_S_S80x2x4x10 : (⟨S_, .i32⟩ : BufTy).Contents (Elt F) → (⟨S80x2x4x10, .i32⟩ : BufTy).Contents (Elt F)),
    binary main_v71 main_v72 main_v73 (addi : (⟨S80x2x4x10, .i32⟩ : BufTy).Contents (Elt F) → (⟨S80x2x4x10, .i32⟩ : BufTy).Contents (Elt F) → (⟨S80x2x4x10, .i32⟩ : BufTy).Contents (Elt F)),
    nullary main_c_15 (constantI S_ 32 63#32),
    unary main_c_15 main_v74 (broadcastInDim S80x2x4x10 ![] bcast_S_S80x2x4x10 : (⟨S_, .i32⟩ : BufTy).Contents (Elt F) → (⟨S80x2x4x10, .i32⟩ : BufTy).Contents (Elt F)),
    binary main_v73 main_v74 main_v75 (minsi : (⟨S80x2x4x10, .i32⟩ : BufTy).Contents (Elt F) → (⟨S80x2x4x10, .i32⟩ : BufTy).Contents (Elt F) → (⟨S80x2x4x10, .i32⟩ : BufTy).Contents (Elt F)),
    unary main_v71 main_v76 (sitofp .f32 : (⟨S80x2x4x10, .i32⟩ : BufTy).Contents (Elt F) → (⟨S80x2x4x10, .f32⟩ : BufTy).Contents (Elt F)),
    binary main_v69 main_v76 main_v77 (subf : (⟨S80x2x4x10, .f32⟩ : BufTy).Contents (Elt F) → (⟨S80x2x4x10, .f32⟩ : BufTy).Contents (Elt F) → (⟨S80x2x4x10, .f32⟩ : BufTy).Contents (Elt F)) ]

/-- What it writes. -/
abbrev w5_W : List (Ref sig .tc) :=
  [main_cst_12, main_v66, main_v67, main_cst_13, main_v68, main_v69, main_v70, main_v71, main_c_14, main_v72, main_v73, main_c_15, main_v74, main_v75, main_v76, main_v77]

/-- Stretch 6: these along the axes of a grid. -/
abbrev w6 : List (HloOp τ sig (Elt F)) :=
  [ unary main_v71 main_v78 ((extractStridedSlice S80x1x4x10 ![0, 0, 0, 0] · slices_S80x2x4x10_S80x1x4x10_0_0_0_0) : (⟨S80x2x4x10, .i32⟩ : BufTy).Contents (Elt F) → (⟨S80x1x4x10, .i32⟩ : BufTy).Contents (Elt F)),
    reshape main_v78 main_v79 (rfl : (.i32 : EltTy) = .i32) shapeCasts_S80x1x4x10_S80x4x10,
    unary main_v79 main_v80 (broadcastInDim S80x4x1x10 ![0, 1, 3] bcast_S80x4x10_S80x4x1x10_0_1_3 : (⟨S80x4x10, .i32⟩ : BufTy).Contents (Elt F) → (⟨S80x4x1x10, .i32⟩ : BufTy).Contents (Elt F)),
    unary main_v71 main_v81 ((extractStridedSlice S80x1x4x10 ![0, 1, 0, 0] · slices_S80x2x4x10_S80x1x4x10_0_1_0_0) : (⟨S80x2x4x10, .i32⟩ : BufTy).Contents (Elt F) → (⟨S80x1x4x10, .i32⟩ : BufTy).Contents (Elt F)),
    reshape main_v81 main_v82 (rfl : (.i32 : EltTy) = .i32) shapeCasts_S80x1x4x10_S80x4x10,
    unary main_v82 main_v83 (broadcastInDim S80x4x10x1 ![0, 1, 2] bcast_S80x4x10_S80x4x10x1_0_1_2 : (⟨S80x4x10, .i32⟩ : BufTy).Contents (Elt F) → (⟨S80x4x10x1, .i32⟩ : BufTy).Contents (Elt F)),
    unary main_v75 main_v84 ((extractStridedSlice S80x1x4x10 ![0, 0, 0, 0] · slices_S80x2x4x10_S80x1x4x10_0_0_0_0) : (⟨S80x2x4x10, .i32⟩ : BufTy).Contents (Elt F) → (⟨S80x1x4x10, .i32⟩ : BufTy).Contents (Elt F)),
    reshape main_v84 main_v85 (rfl : (.i32 : EltTy) = .i32) shapeCasts_S80x1x4x10_S80x4x10,
    unary main_v85 main_v86 (broadcastInDim S80x4x1x10 ![0, 1, 3] bcast_S80x4x10_S80x4x1x10_0_1_3 : (⟨S80x4x10, .i32⟩ : BufTy).Contents (Elt F) → (⟨S80x4x1x10, .i32⟩ : BufTy).Contents (Elt F)),
    unary main_v75 main_v87 ((extractStridedSlice S80x1x4x10 ![0, 1, 0, 0] · slices_S80x2x4x10_S80x1x4x10_0_1_0_0) : (⟨S80x2x4x10, .i32⟩ : BufTy).Contents (Elt F) → (⟨S80x1x4x10, .i32⟩ : BufTy).Contents (Elt F)),
    reshape main_v87 main_v88 (rfl : (.i32 : EltTy) = .i32) shapeCasts_S80x1x4x10_S80x4x10,
    unary main_v88 main_v89 (broadcastInDim S80x4x10x1 ![0, 1, 2] bcast_S80x4x10_S80x4x10x1_0_1_2 : (⟨S80x4x10, .i32⟩ : BufTy).Contents (Elt F) → (⟨S80x4x10x1, .i32⟩ : BufTy).Contents (Elt F)),
    unary main_v77 main_v90 ((extractStridedSlice S80x1x4x10 ![0, 0, 0, 0] · slices_S80x2x4x10_S80x1x4x10_0_0_0_0) : (⟨S80x2x4x10, .f32⟩ : BufTy).Contents (Elt F) → (⟨S80x1x4x10, .f32⟩ : BufTy).Contents (Elt F)),
    reshape main_v90 main_v91 (rfl : (.f32 : EltTy) = .f32) shapeCasts_S80x1x4x10_S80x4x10,
    unary main_v91 main_v92 (broadcastInDim S80x4x1x10 ![0, 1, 3] bcast_S80x4x10_S80x4x1x10_0_1_3 : (⟨S80x4x10, .f32⟩ : BufTy).Contents (Elt F) → (⟨S80x4x1x10, .f32⟩ : BufTy).Contents (Elt F)),
    unary main_v77 main_v93 ((extractStridedSlice S80x1x4x10 ![0, 1, 0, 0] · slices_S80x2x4x10_S80x1x4x10_0_1_0_0) : (⟨S80x2x4x10, .f32⟩ : BufTy).Contents (Elt F) → (⟨S80x1x4x10, .f32⟩ : BufTy).Contents (Elt F)),
    reshape main_v93 main_v94 (rfl : (.f32 : EltTy) = .f32) shapeCasts_S80x1x4x10_S80x4x10,
    unary main_v94 main_v95 (broadcastInDim S80x4x10x1 ![0, 1, 2] bcast_S80x4x10_S80x4x10x1_0_1_2 : (⟨S80x4x10, .f32⟩ : BufTy).Contents (Elt F) → (⟨S80x4x10x1, .f32⟩ : BufTy).Contents (Elt F)),
    nullary main_c_16 (constantI S_ 32 64#32),
    unary main_c_16 main_v96 (broadcastInDim S80x4x10x1 ![] bcast_S_S80x4x10x1 : (⟨S_, .i32⟩ : BufTy).Contents (Elt F) → (⟨S80x4x10x1, .i32⟩ : BufTy).Contents (Elt F)),
    binary main_v83 main_v96 main_v97 (muli : (⟨S80x4x10x1, .i32⟩ : BufTy).Contents (Elt F) → (⟨S80x4x10x1, .i32⟩ : BufTy).Contents (Elt F) → (⟨S80x4x10x1, .i32⟩ : BufTy).Contents (Elt F)),
    unary main_v97 main_v98 (broadcastInDim S80x4x10x10 ![0, 1, 2, 3] bcast_S80x4x10x1_S80x4x10x10_0_1_2_3 : (⟨S80x4x10x1, .i32⟩ : BufTy).Contents (Elt F) → (⟨S80x4x10x10, .i32⟩ : BufTy).Contents (Elt F)) ]

/-- What it writes. -/
abbrev w6_W : List (Ref sig .tc) :=
  [main_v78, main_v79, main_v80, main_v81, main_v82, main_v83, main_v84, main_v85, main_v86, main_v87, main_v88, main_v89, main_v90, main_v91, main_v92, main_v93, main_v94, main_v95, main_c_16, main_v96, main_v97, main_v98]

/-- Stretch 7: the first two neighbours of a sample, weighted. -/
abbrev w7 : List (HloOp τ sig (Elt F)) :=
  [ unary main_v80 main_v99 (broadcastInDim S80x4x10x10 ![0, 1, 2, 3] bcast_S80x4x1x10_S80x4x10x10_0_1_2_3 : (⟨S80x4x1x10, .i32⟩ : BufTy).Contents (Elt F) → (⟨S80x4x10x10, .i32⟩ : BufTy).Contents (Elt F)),
    binary main_v98 main_v99 main_v100 (addi : (⟨S80x4x10x10, .i32⟩ : BufTy).Contents (Elt F) → (⟨S80x4x10x10, .i32⟩ : BufTy).Contents (Elt F) → (⟨S80x4x10x10, .i32⟩ : BufTy).Contents (Elt F)),
    unary main_v100 main_v101 (broadcastInDim S80x4x10x10x1 ![0, 1, 2, 3] bcast_S80x4x10x10_S80x4x10x10x1_0_1_2_3 : (⟨S80x4x10x10, .i32⟩ : BufTy).Contents (Elt F) → (⟨S80x4x10x10x1, .i32⟩ : BufTy).Contents (Elt F)),
    binary main_v38 main_v101 main_v102 ((fun x i => Host.gather gather_S80x128x4096_S80x4x10x10x1_S80x128x4x10x10_1_2_0_0_2_4_11281 x i) : (⟨S80x128x4096, .f32⟩ : BufTy).Contents (Elt F) → (⟨S80x4x10x10x1, .i32⟩ : BufTy).Contents (Elt F) → (⟨S80x128x4x10x10, .f32⟩ : BufTy).Contents (Elt F)),
    nullary main_cst_17 (constant S_ .f32 0x3F800000#32),
    unary main_cst_17 main_v103 (broadcastInDim S80x4x10x1 ![] bcast_S_S80x4x10x1 : (⟨S_, .f32⟩ : BufTy).Contents (Elt F) → (⟨S80x4x10x1, .f32⟩ : BufTy).Contents (Elt F)),
    binary main_v103 main_v95 main_v104 (subf : (⟨S80x4x10x1, .f32⟩ : BufTy).Contents (Elt F) → (⟨S80x4x10x1, .f32⟩ : BufTy).Contents (Elt F) → (⟨S80x4x10x1, .f32⟩ : BufTy).Contents (Elt F)),
    nullary main_cst_18 (constant S_ .f32 0x3F800000#32),
    unary main_cst_18 main_v105 (broadcastInDim S80x4x1x10 ![] bcast_S_S80x4x1x10 : (⟨S_, .f32⟩ : BufTy).Contents (Elt F) → (⟨S80x4x1x10, .f32⟩ : BufTy).Contents (Elt F)),
    binary main_v105 main_v92 main_v106 (subf : (⟨S80x4x1x10, .f32⟩ : BufTy).Contents (Elt F) → (⟨S80x4x1x10, .f32⟩ : BufTy).Contents (Elt F) → (⟨S80x4x1x10, .f32⟩ : BufTy).Contents (Elt F)),
    unary main_v104 main_v107 (broadcastInDim S80x4x10x10 ![0, 1, 2, 3] bcast_S80x4x10x1_S80x4x10x10_0_1_2_3 : (⟨S80x4x10x1, .f32⟩ : BufTy).Contents (Elt F) → (⟨S80x4x10x10, .f32⟩ : BufTy).Contents (Elt F)),
    unary main_v106 main_v108 (broadcastInDim S80x4x10x10 ![0, 1, 2, 3] bcast_S80x4x1x10_S80x4x10x10_0_1_2_3 : (⟨S80x4x1x10, .f32⟩ : BufTy).Contents (Elt F) → (⟨S80x4x10x10, .f32⟩ : BufTy).Contents (Elt F)),
    binary main_v107 main_v108 main_v109 (mulf : (⟨S80x4x10x10, .f32⟩ : BufTy).Contents (Elt F) → (⟨S80x4x10x10, .f32⟩ : BufTy).Contents (Elt F) → (⟨S80x4x10x10, .f32⟩ : BufTy).Contents (Elt F)),
    unary main_v109 main_v110 (broadcastInDim S80x1x4x10x10 ![0, 2, 3, 4] bcast_S80x4x10x10_S80x1x4x10x10_0_2_3_4 : (⟨S80x4x10x10, .f32⟩ : BufTy).Contents (Elt F) → (⟨S80x1x4x10x10, .f32⟩ : BufTy).Contents (Elt F)),
    unary main_v110 main_v111 (broadcastInDim S80x128x4x10x10 ![0, 1, 2, 3, 4] bcast_S80x1x4x10x10_S80x128x4x10x10_0_1_2_3_4 : (⟨S80x1x4x10x10, .f32⟩ : BufTy).Contents (Elt F) → (⟨S80x128x4x10x10, .f32⟩ : BufTy).Contents (Elt F)),
    binary main_v102 main_v111 main_v112 (mulf : (⟨S80x128x4x10x10, .f32⟩ : BufTy).Contents (Elt F) → (⟨S80x128x4x10x10, .f32⟩ : BufTy).Contents (Elt F) → (⟨S80x128x4x10x10, .f32⟩ : BufTy).Contents (Elt F)),
    nullary main_c_19 (constantI S_ 32 64#32),
    unary main_c_19 main_v113 (broadcastInDim S80x4x10x1 ![] bcast_S_S80x4x10x1 : (⟨S_, .i32⟩ : BufTy).Contents (Elt F) → (⟨S80x4x10x1, .i32⟩ : BufTy).Contents (Elt F)),
    binary main_v83 main_v113 main_v114 (muli : (⟨S80x4x10x1, .i32⟩ : BufTy).Contents (Elt F) → (⟨S80x4x10x1, .i32⟩ : BufTy).Contents (Elt F) → (⟨S80x4x10x1, .i32⟩ : BufTy).Contents (Elt F)),
    unary main_v114 main_v115 (broadcastInDim S80x4x10x10 ![0, 1, 2, 3] bcast_S80x4x10x1_S80x4x10x10_0_1_2_3 : (⟨S80x4x10x1, .i32⟩ : BufTy).Contents (Elt F) → (⟨S80x4x10x10, .i32⟩ : BufTy).Contents (Elt F)),
    unary main_v86 main_v116 (broadcastInDim S80x4x10x10 ![0, 1, 2, 3] bcast_S80x4x1x10_S80x4x10x10_0_1_2_3 : (⟨S80x4x1x10, .i32⟩ : BufTy).Contents (Elt F) → (⟨S80x4x10x10, .i32⟩ : BufTy).Contents (Elt F)),
    binary main_v115 main_v116 main_v117 (addi : (⟨S80x4x10x10, .i32⟩ : BufTy).Contents (Elt F) → (⟨S80x4x10x10, .i32⟩ : BufTy).Contents (Elt F) → (⟨S80x4x10x10, .i32⟩ : BufTy).Contents (Elt F)),
    unary main_v117 main_v118 (broadcastInDim S80x4x10x10x1 ![0, 1, 2, 3] bcast_S80x4x10x10_S80x4x10x10x1_0_1_2_3 : (⟨S80x4x10x10, .i32⟩ : BufTy).Contents (Elt F) → (⟨S80x4x10x10x1, .i32⟩ : BufTy).Contents (Elt F)),
    binary main_v38 main_v118 main_v119 ((fun x i => Host.gather gather_S80x128x4096_S80x4x10x10x1_S80x128x4x10x10_1_2_0_0_2_4_11281 x i) : (⟨S80x128x4096, .f32⟩ : BufTy).Contents (Elt F) → (⟨S80x4x10x10x1, .i32⟩ : BufTy).Contents (Elt F) → (⟨S80x128x4x10x10, .f32⟩ : BufTy).Contents (Elt F)),
    nullary main_cst_20 (constant S_ .f32 0x3F800000#32),
    unary main_cst_20 main_v120 (broadcastInDim S80x4x10x1 ![] bcast_S_S80x4x10x1 : (⟨S_, .f32⟩ : BufTy).Contents (Elt F) → (⟨S80x4x10x1, .f32⟩ : BufTy).Contents (Elt F)),
    binary main_v120 main_v95 main_v121 (subf : (⟨S80x4x10x1, .f32⟩ : BufTy).Contents (Elt F) → (⟨S80x4x10x1, .f32⟩ : BufTy).Contents (Elt F) → (⟨S80x4x10x1, .f32⟩ : BufTy).Contents (Elt F)),
    unary main_v121 main_v122 (broadcastInDim S80x4x10x10 ![0, 1, 2, 3] bcast_S80x4x10x1_S80x4x10x10_0_1_2_3 : (⟨S80x4x10x1, .f32⟩ : BufTy).Contents (Elt F) → (⟨S80x4x10x10, .f32⟩ : BufTy).Contents (Elt F)),
    unary main_v92 main_v123 (broadcastInDim S80x4x10x10 ![0, 1, 2, 3] bcast_S80x4x1x10_S80x4x10x10_0_1_2_3 : (⟨S80x4x1x10, .f32⟩ : BufTy).Contents (Elt F) → (⟨S80x4x10x10, .f32⟩ : BufTy).Contents (Elt F)),
    binary main_v122 main_v123 main_v124 (mulf : (⟨S80x4x10x10, .f32⟩ : BufTy).Contents (Elt F) → (⟨S80x4x10x10, .f32⟩ : BufTy).Contents (Elt F) → (⟨S80x4x10x10, .f32⟩ : BufTy).Contents (Elt F)),
    unary main_v124 main_v125 (broadcastInDim S80x1x4x10x10 ![0, 2, 3, 4] bcast_S80x4x10x10_S80x1x4x10x10_0_2_3_4 : (⟨S80x4x10x10, .f32⟩ : BufTy).Contents (Elt F) → (⟨S80x1x4x10x10, .f32⟩ : BufTy).Contents (Elt F)),
    unary main_v125 main_v126 (broadcastInDim S80x128x4x10x10 ![0, 1, 2, 3, 4] bcast_S80x1x4x10x10_S80x128x4x10x10_0_1_2_3_4 : (⟨S80x1x4x10x10, .f32⟩ : BufTy).Contents (Elt F) → (⟨S80x128x4x10x10, .f32⟩ : BufTy).Contents (Elt F)),
    binary main_v119 main_v126 main_v127 (mulf : (⟨S80x128x4x10x10, .f32⟩ : BufTy).Contents (Elt F) → (⟨S80x128x4x10x10, .f32⟩ : BufTy).Contents (Elt F) → (⟨S80x128x4x10x10, .f32⟩ : BufTy).Contents (Elt F)),
    binary main_v112 main_v127 main_v128 (addf : (⟨S80x128x4x10x10, .f32⟩ : BufTy).Contents (Elt F) → (⟨S80x128x4x10x10, .f32⟩ : BufTy).Contents (Elt F) → (⟨S80x128x4x10x10, .f32⟩ : BufTy).Contents (Elt F)) ]

/-- What it writes. -/
abbrev w7_W : List (Ref sig .tc) :=
  [main_v99, main_v100, main_v101, main_v102, main_cst_17, main_v103, main_v104, main_cst_18, main_v105, main_v106, main_v107, main_v108, main_v109, main_v110, main_v111, main_v112, main_c_19, main_v113, main_v114, main_v115, main_v116, main_v117, main_v118, main_v119, main_cst_20, main_v120, main_v121, main_v122, main_v123, main_v124, main_v125, main_v126, main_v127, main_v128]

/-- Stretch 8: the third, added, and the features at the fourth. -/
abbrev w8 : List (HloOp τ sig (Elt F)) :=
  [ nullary main_c_21 (constantI S_ 32 64#32),
    unary main_c_21 main_v129 (broadcastInDim S80x4x10x1 ![] bcast_S_S80x4x10x1 : (⟨S_, .i32⟩ : BufTy).Contents (Elt F) → (⟨S80x4x10x1, .i32⟩ : BufTy).Contents (Elt F)),
    binary main_v89 main_v129 main_v130 (muli : (⟨S80x4x10x1, .i32⟩ : BufTy).Contents (Elt F) → (⟨S80x4x10x1, .i32⟩ : BufTy).Contents (Elt F) → (⟨S80x4x10x1, .i32⟩ : BufTy).Contents (Elt F)),
    unary main_v130 main_v131 (broadcastInDim S80x4x10x10 ![0, 1, 2, 3] bcast_S80x4x10x1_S80x4x10x10_0_1_2_3 : (⟨S80x4x10x1, .i32⟩ : BufTy).Contents (Elt F) → (⟨S80x4x10x10, .i32⟩ : BufTy).Contents (Elt F)),
    unary main_v80 main_v132 (broadcastInDim S80x4x10x10 ![0, 1, 2, 3] bcast_S80x4x1x10_S80x4x10x10_0_1_2_3 : (⟨S80x4x1x10, .i32⟩ : BufTy).Contents (Elt F) → (⟨S80x4x10x10, .i32⟩ : BufTy).Contents (Elt F)),
    binary main_v131 main_v132 main_v133 (addi : (⟨S80x4x10x10, .i32⟩ : BufTy).Contents (Elt F) → (⟨S80x4x10x10, .i32⟩ : BufTy).Contents (Elt F) → (⟨S80x4x10x10, .i32⟩ : BufTy).Contents (Elt F)),
    unary main_v133 main_v134 (broadcastInDim S80x4x10x10x1 ![0, 1, 2, 3] bcast_S80x4x10x10_S80x4x10x10x1_0_1_2_3 : (⟨S80x4x10x10, .i32⟩ : BufTy).Contents (Elt F) → (⟨S80x4x10x10x1, .i32⟩ : BufTy).Contents (Elt F)),
    binary main_v38 main_v134 main_v135 ((fun x i => Host.gather gather_S80x128x4096_S80x4x10x10x1_S80x128x4x10x10_1_2_0_0_2_4_11281 x i) : (⟨S80x128x4096, .f32⟩ : BufTy).Contents (Elt F) → (⟨S80x4x10x10x1, .i32⟩ : BufTy).Contents (Elt F) → (⟨S80x128x4x10x10, .f32⟩ : BufTy).Contents (Elt F)),
    nullary main_cst_22 (constant S_ .f32 0x3F800000#32),
    unary main_cst_22 main_v136 (broadcastInDim S80x4x1x10 ![] bcast_S_S80x4x1x10 : (⟨S_, .f32⟩ : BufTy).Contents (Elt F) → (⟨S80x4x1x10, .f32⟩ : BufTy).Contents (Elt F)),
    binary main_v136 main_v92 main_v137 (subf : (⟨S80x4x1x10, .f32⟩ : BufTy).Contents (Elt F) → (⟨S80x4x1x10, .f32⟩ : BufTy).Contents (Elt F) → (⟨S80x4x1x10, .f32⟩ : BufTy).Contents (Elt F)),
    unary main_v95 main_v138 (broadcastInDim S80x4x10x10 ![0, 1, 2, 3] bcast_S80x4x10x1_S80x4x10x10_0_1_2_3 : (⟨S80x4x10x1, .f32⟩ : BufTy).Contents (Elt F) → (⟨S80x4x10x10, .f32⟩ : BufTy).Contents (Elt F)),
    unary main_v137 main_v139 (broadcastInDim S80x4x10x10 ![0, 1, 2, 3] bcast_S80x4x1x10_S80x4x10x10_0_1_2_3 : (⟨S80x4x1x10, .f32⟩ : BufTy).Contents (Elt F) → (⟨S80x4x10x10, .f32⟩ : BufTy).Contents (Elt F)),
    binary main_v138 main_v139 main_v140 (mulf : (⟨S80x4x10x10, .f32⟩ : BufTy).Contents (Elt F) → (⟨S80x4x10x10, .f32⟩ : BufTy).Contents (Elt F) → (⟨S80x4x10x10, .f32⟩ : BufTy).Contents (Elt F)),
    unary main_v140 main_v141 (broadcastInDim S80x1x4x10x10 ![0, 2, 3, 4] bcast_S80x4x10x10_S80x1x4x10x10_0_2_3_4 : (⟨S80x4x10x10, .f32⟩ : BufTy).Contents (Elt F) → (⟨S80x1x4x10x10, .f32⟩ : BufTy).Contents (Elt F)),
    unary main_v141 main_v142 (broadcastInDim S80x128x4x10x10 ![0, 1, 2, 3, 4] bcast_S80x1x4x10x10_S80x128x4x10x10_0_1_2_3_4 : (⟨S80x1x4x10x10, .f32⟩ : BufTy).Contents (Elt F) → (⟨S80x128x4x10x10, .f32⟩ : BufTy).Contents (Elt F)),
    binary main_v135 main_v142 main_v143 (mulf : (⟨S80x128x4x10x10, .f32⟩ : BufTy).Contents (Elt F) → (⟨S80x128x4x10x10, .f32⟩ : BufTy).Contents (Elt F) → (⟨S80x128x4x10x10, .f32⟩ : BufTy).Contents (Elt F)),
    binary main_v128 main_v143 main_v144 (addf : (⟨S80x128x4x10x10, .f32⟩ : BufTy).Contents (Elt F) → (⟨S80x128x4x10x10, .f32⟩ : BufTy).Contents (Elt F) → (⟨S80x128x4x10x10, .f32⟩ : BufTy).Contents (Elt F)),
    nullary main_c_23 (constantI S_ 32 64#32),
    unary main_c_23 main_v145 (broadcastInDim S80x4x10x1 ![] bcast_S_S80x4x10x1 : (⟨S_, .i32⟩ : BufTy).Contents (Elt F) → (⟨S80x4x10x1, .i32⟩ : BufTy).Contents (Elt F)),
    binary main_v89 main_v145 main_v146 (muli : (⟨S80x4x10x1, .i32⟩ : BufTy).Contents (Elt F) → (⟨S80x4x10x1, .i32⟩ : BufTy).Contents (Elt F) → (⟨S80x4x10x1, .i32⟩ : BufTy).Contents (Elt F)),
    unary main_v146 main_v147 (broadcastInDim S80x4x10x10 ![0, 1, 2, 3] bcast_S80x4x10x1_S80x4x10x10_0_1_2_3 : (⟨S80x4x10x1, .i32⟩ : BufTy).Contents (Elt F) → (⟨S80x4x10x10, .i32⟩ : BufTy).Contents (Elt F)),
    unary main_v86 main_v148 (broadcastInDim S80x4x10x10 ![0, 1, 2, 3] bcast_S80x4x1x10_S80x4x10x10_0_1_2_3 : (⟨S80x4x1x10, .i32⟩ : BufTy).Contents (Elt F) → (⟨S80x4x10x10, .i32⟩ : BufTy).Contents (Elt F)),
    binary main_v147 main_v148 main_v149 (addi : (⟨S80x4x10x10, .i32⟩ : BufTy).Contents (Elt F) → (⟨S80x4x10x10, .i32⟩ : BufTy).Contents (Elt F) → (⟨S80x4x10x10, .i32⟩ : BufTy).Contents (Elt F)),
    unary main_v149 main_v150 (broadcastInDim S80x4x10x10x1 ![0, 1, 2, 3] bcast_S80x4x10x10_S80x4x10x10x1_0_1_2_3 : (⟨S80x4x10x10, .i32⟩ : BufTy).Contents (Elt F) → (⟨S80x4x10x10x1, .i32⟩ : BufTy).Contents (Elt F)),
    binary main_v38 main_v150 main_v151 ((fun x i => Host.gather gather_S80x128x4096_S80x4x10x10x1_S80x128x4x10x10_1_2_0_0_2_4_11281 x i) : (⟨S80x128x4096, .f32⟩ : BufTy).Contents (Elt F) → (⟨S80x4x10x10x1, .i32⟩ : BufTy).Contents (Elt F) → (⟨S80x128x4x10x10, .f32⟩ : BufTy).Contents (Elt F)) ]

/-- What it writes. -/
abbrev w8_W : List (Ref sig .tc) :=
  [main_c_21, main_v129, main_v130, main_v131, main_v132, main_v133, main_v134, main_v135, main_cst_22, main_v136, main_v137, main_v138, main_v139, main_v140, main_v141, main_v142, main_v143, main_v144, main_c_23, main_v145, main_v146, main_v147, main_v148, main_v149, main_v150, main_v151]

/-- Stretch 9: the bilinear sums. -/
abbrev w9 : List (HloOp τ sig (Elt F)) :=
  [ unary main_v95 main_v152 (broadcastInDim S80x4x10x10 ![0, 1, 2, 3] bcast_S80x4x10x1_S80x4x10x10_0_1_2_3 : (⟨S80x4x10x1, .f32⟩ : BufTy).Contents (Elt F) → (⟨S80x4x10x10, .f32⟩ : BufTy).Contents (Elt F)),
    unary main_v92 main_v153 (broadcastInDim S80x4x10x10 ![0, 1, 2, 3] bcast_S80x4x1x10_S80x4x10x10_0_1_2_3 : (⟨S80x4x1x10, .f32⟩ : BufTy).Contents (Elt F) → (⟨S80x4x10x10, .f32⟩ : BufTy).Contents (Elt F)),
    binary main_v152 main_v153 main_v154 (mulf : (⟨S80x4x10x10, .f32⟩ : BufTy).Contents (Elt F) → (⟨S80x4x10x10, .f32⟩ : BufTy).Contents (Elt F) → (⟨S80x4x10x10, .f32⟩ : BufTy).Contents (Elt F)),
    unary main_v154 main_v155 (broadcastInDim S80x1x4x10x10 ![0, 2, 3, 4] bcast_S80x4x10x10_S80x1x4x10x10_0_2_3_4 : (⟨S80x4x10x10, .f32⟩ : BufTy).Contents (Elt F) → (⟨S80x1x4x10x10, .f32⟩ : BufTy).Contents (Elt F)),
    unary main_v155 main_v156 (broadcastInDim S80x128x4x10x10 ![0, 1, 2, 3, 4] bcast_S80x1x4x10x10_S80x128x4x10x10_0_1_2_3_4 : (⟨S80x1x4x10x10, .f32⟩ : BufTy).Contents (Elt F) → (⟨S80x128x4x10x10, .f32⟩ : BufTy).Contents (Elt F)),
    binary main_v151 main_v156 main_v157 (mulf : (⟨S80x128x4x10x10, .f32⟩ : BufTy).Contents (Elt F) → (⟨S80x128x4x10x10, .f32⟩ : BufTy).Contents (Elt F) → (⟨S80x128x4x10x10, .f32⟩ : BufTy).Contents (Elt F)),
    binary main_v144 main_v157 main_v158 (addf : (⟨S80x128x4x10x10, .f32⟩ : BufTy).Contents (Elt F) → (⟨S80x128x4x10x10, .f32⟩ : BufTy).Contents (Elt F) → (⟨S80x128x4x10x10, .f32⟩ : BufTy).Contents (Elt F)) ]

/-- What it writes. -/
abbrev w9_W : List (Ref sig .tc) :=
  [main_v152, main_v153, main_v154, main_v155, main_v156, main_v157, main_v158]

/-- Stretch 10: with zero outside. -/
abbrev w10 : List (HloOp τ sig (Elt F)) :=
  [ nullary main_cst_24 (constant S_ .f32 0xBF800000#32),
    unary main_cst_24 main_v159 (broadcastInDim S80x2x4x10 ![] bcast_S_S80x2x4x10 : (⟨S_, .f32⟩ : BufTy).Contents (Elt F) → (⟨S80x2x4x10, .f32⟩ : BufTy).Contents (Elt F)),
    binary main_v65 main_v159 main_v160 (cmpf .ogt : (⟨S80x2x4x10, .f32⟩ : BufTy).Contents (Elt F) → (⟨S80x2x4x10, .f32⟩ : BufTy).Contents (Elt F) → (⟨S80x2x4x10, .i1⟩ : BufTy).Contents (Elt F)),
    nullary main_cst_25 (constant S_ .f32 0x42800000#32),
    unary main_cst_25 main_v161 (broadcastInDim S80x2x4x10 ![] bcast_S_S80x2x4x10 : (⟨S_, .f32⟩ : BufTy).Contents (Elt F) → (⟨S80x2x4x10, .f32⟩ : BufTy).Contents (Elt F)),
    binary main_v65 main_v161 main_v162 (cmpf .olt : (⟨S80x2x4x10, .f32⟩ : BufTy).Contents (Elt F) → (⟨S80x2x4x10, .f32⟩ : BufTy).Contents (Elt F) → (⟨S80x2x4x10, .i1⟩ : BufTy).Contents (Elt F)),
    binary main_v160 main_v162 main_v163 (andi : (⟨S80x2x4x10, .i1⟩ : BufTy).Contents (Elt F) → (⟨S80x2x4x10, .i1⟩ : BufTy).Contents (Elt F) → (⟨S80x2x4x10, .i1⟩ : BufTy).Contents (Elt F)),
    unary main_v163 main_v164 ((extractStridedSlice S80x1x4x10 ![0, 0, 0, 0] · slices_S80x2x4x10_S80x1x4x10_0_0_0_0) : (⟨S80x2x4x10, .i1⟩ : BufTy).Contents (Elt F) → (⟨S80x1x4x10, .i1⟩ : BufTy).Contents (Elt F)),
    reshape main_v164 main_v165 (rfl : (.i1 : EltTy) = .i1) shapeCasts_S80x1x4x10_S80x4x10,
    unary main_v165 main_v166 (broadcastInDim S80x4x1x10 ![0, 1, 3] bcast_S80x4x10_S80x4x1x10_0_1_3 : (⟨S80x4x10, .i1⟩ : BufTy).Contents (Elt F) → (⟨S80x4x1x10, .i1⟩ : BufTy).Contents (Elt F)),
    unary main_v163 main_v167 ((extractStridedSlice S80x1x4x10 ![0, 1, 0, 0] · slices_S80x2x4x10_S80x1x4x10_0_1_0_0) : (⟨S80x2x4x10, .i1⟩ : BufTy).Contents (Elt F) → (⟨S80x1x4x10, .i1⟩ : BufTy).Contents (Elt F)),
    reshape main_v167 main_v168 (rfl : (.i1 : EltTy) = .i1) shapeCasts_S80x1x4x10_S80x4x10,
    unary main_v168 main_v169 (broadcastInDim S80x4x10x1 ![0, 1, 2] bcast_S80x4x10_S80x4x10x1_0_1_2 : (⟨S80x4x10, .i1⟩ : BufTy).Contents (Elt F) → (⟨S80x4x10x1, .i1⟩ : BufTy).Contents (Elt F)),
    unary main_v169 main_v170 (broadcastInDim S80x4x10x10 ![0, 1, 2, 3] bcast_S80x4x10x1_S80x4x10x10_0_1_2_3 : (⟨S80x4x10x1, .i1⟩ : BufTy).Contents (Elt F) → (⟨S80x4x10x10, .i1⟩ : BufTy).Contents (Elt F)),
    unary main_v166 main_v171 (broadcastInDim S80x4x10x10 ![0, 1, 2, 3] bcast_S80x4x1x10_S80x4x10x10_0_1_2_3 : (⟨S80x4x1x10, .i1⟩ : BufTy).Contents (Elt F) → (⟨S80x4x10x10, .i1⟩ : BufTy).Contents (Elt F)),
    binary main_v170 main_v171 main_v172 (andi : (⟨S80x4x10x10, .i1⟩ : BufTy).Contents (Elt F) → (⟨S80x4x10x10, .i1⟩ : BufTy).Contents (Elt F) → (⟨S80x4x10x10, .i1⟩ : BufTy).Contents (Elt F)),
    unary main_v172 main_v173 (broadcastInDim S80x1x4x10x10 ![0, 2, 3, 4] bcast_S80x4x10x10_S80x1x4x10x10_0_2_3_4 : (⟨S80x4x10x10, .i1⟩ : BufTy).Contents (Elt F) → (⟨S80x1x4x10x10, .i1⟩ : BufTy).Contents (Elt F)),
    unary main_v173 main_v174 (broadcastInDim S80x128x4x10x10 ![0, 1, 2, 3, 4] bcast_S80x1x4x10x10_S80x128x4x10x10_0_1_2_3_4 : (⟨S80x1x4x10x10, .i1⟩ : BufTy).Contents (Elt F) → (⟨S80x128x4x10x10, .i1⟩ : BufTy).Contents (Elt F)),
    nullary main_cst_26 (constant S_ .f32 0x00000000#32),
    unary main_cst_26 main_v175 (broadcastInDim S80x128x4x10x10 ![] bcast_S_S80x128x4x10x10 : (⟨S_, .f32⟩ : BufTy).Contents (Elt F) → (⟨S80x128x4x10x10, .f32⟩ : BufTy).Contents (Elt F)),
    ternary main_v174 main_v158 main_v175 main_v176 (select : (⟨S80x128x4x10x10, .i1⟩ : BufTy).Contents (Elt F) → (⟨S80x128x4x10x10, .f32⟩ : BufTy).Contents (Elt F) → (⟨S80x128x4x10x10, .f32⟩ : BufTy).Contents (Elt F) → (⟨S80x128x4x10x10, .f32⟩ : BufTy).Contents (Elt F)) ]

/-- What it writes. -/
abbrev w10_W : List (Ref sig .tc) :=
  [main_cst_24, main_v159, main_v160, main_cst_25, main_v161, main_v162, main_v163, main_v164, main_v165, main_v166, main_v167, main_v168, main_v169, main_v170, main_v171, main_v172, main_v173, main_v174, main_cst_26, main_v175, main_v176]

/-- Stretch 11: the means of the bins. -/
abbrev w11 : List (HloOp τ sig (Elt F)) :=
  [ unary main_v176 main_v177 ((Host.slice S80x128x4x5x10 ![0, 0, 0, 0, 0] ![1, 1, 1, 2, 1] · slicesBy_S80x128x4x10x10_S80x128x4x5x10_0s1_0s1_0s1_0s2_0s1) : (⟨S80x128x4x10x10, .f32⟩ : BufTy).Contents (Elt F) → (⟨S80x128x4x5x10, .f32⟩ : BufTy).Contents (Elt F)),
    unary main_v176 main_v178 ((Host.slice S80x128x4x5x10 ![0, 0, 0, 1, 0] ![1, 1, 1, 2, 1] · slicesBy_S80x128x4x10x10_S80x128x4x5x10_0s1_0s1_0s1_1s2_0s1) : (⟨S80x128x4x10x10, .f32⟩ : BufTy).Contents (Elt F) → (⟨S80x128x4x5x10, .f32⟩ : BufTy).Contents (Elt F)),
    binary main_v177 main_v178 main_v179 (addf : (⟨S80x128x4x5x10, .f32⟩ : BufTy).Contents (Elt F) → (⟨S80x128x4x5x10, .f32⟩ : BufTy).Contents (Elt F) → (⟨S80x128x4x5x10, .f32⟩ : BufTy).Contents (Elt F)),
    unary main_v179 main_v180 ((Host.slice S80x128x4x5x5 ![0, 0, 0, 0, 0] ![1, 1, 1, 1, 2] · slicesBy_S80x128x4x5x10_S80x128x4x5x5_0s1_0s1_0s1_0s1_0s2) : (⟨S80x128x4x5x10, .f32⟩ : BufTy).Contents (Elt F) → (⟨S80x128x4x5x5, .f32⟩ : BufTy).Contents (Elt F)),
    unary main_v179 main_v181 ((Host.slice S80x128x4x5x5 ![0, 0, 0, 0, 1] ![1, 1, 1, 1, 2] · slicesBy_S80x128x4x5x10_S80x128x4x5x5_0s1_0s1_0s1_0s1_1s2) : (⟨S80x128x4x5x10, .f32⟩ : BufTy).Contents (Elt F) → (⟨S80x128x4x5x5, .f32⟩ : BufTy).Contents (Elt F)),
    binary main_v180 main_v181 main_v182 (addf : (⟨S80x128x4x5x5, .f32⟩ : BufTy).Contents (Elt F) → (⟨S80x128x4x5x5, .f32⟩ : BufTy).Contents (Elt F) → (⟨S80x128x4x5x5, .f32⟩ : BufTy).Contents (Elt F)),
    nullary main_cst_27 (constant S_ .f32 0x40800000#32),
    unary main_cst_27 main_v183 (broadcastInDim S80x128x4x5x5 ![] bcast_S_S80x128x4x5x5 : (⟨S_, .f32⟩ : BufTy).Contents (Elt F) → (⟨S80x128x4x5x5, .f32⟩ : BufTy).Contents (Elt F)),
    binary main_v182 main_v183 main_v184 (Host.divf : (⟨S80x128x4x5x5, .f32⟩ : BufTy).Contents (Elt F) → (⟨S80x128x4x5x5, .f32⟩ : BufTy).Contents (Elt F) → (⟨S80x128x4x5x5, .f32⟩ : BufTy).Contents (Elt F)),
    reshape main_v184 main_v185 (rfl : (.f32 : EltTy) = .f32) shapeCasts_S80x128x4x5x5_S80x128x4x25 ]

/-- What it writes. -/
abbrev w11_W : List (Ref sig .tc) :=
  [main_v177, main_v178, main_v179, main_v180, main_v181, main_v182, main_cst_27, main_v183, main_v184, main_v185]

/-- Stretch 12: the windows that the pooling table averages. -/
abbrev w12 : List (HloOp τ sig (Elt F)) :=
  [ nullary main_v186 (iotaInDim S25x14 32 0),
    nullary main_v187 (iotaInDim S25x14 32 1),
    nullary main_c_28 (constantI S_ 32 25#32),
    unary main_c_28 main_v188 (broadcastInDim S25x14 ![] bcast_S_S25x14 : (⟨S_, .i32⟩ : BufTy).Contents (Elt F) → (⟨S25x14, .i32⟩ : BufTy).Contents (Elt F)),
    binary main_v187 main_v188 main_v189 (muli : (⟨S25x14, .i32⟩ : BufTy).Contents (Elt F) → (⟨S25x14, .i32⟩ : BufTy).Contents (Elt F) → (⟨S25x14, .i32⟩ : BufTy).Contents (Elt F)),
    nullary main_c_29 (constantI S_ 32 14#32),
    unary main_c_29 main_v190 (broadcastInDim S25x14 ![] bcast_S_S25x14 : (⟨S_, .i32⟩ : BufTy).Contents (Elt F) → (⟨S25x14, .i32⟩ : BufTy).Contents (Elt F)),
    binary main_v189 main_v190 main_v191 (Host.divsi : (⟨S25x14, .i32⟩ : BufTy).Contents (Elt F) → (⟨S25x14, .i32⟩ : BufTy).Contents (Elt F) → (⟨S25x14, .i32⟩ : BufTy).Contents (Elt F)),
    nullary main_c_30 (constantI S_ 32 25#32),
    unary main_c_30 main_v192 (broadcastInDim S25x14 ![] bcast_S_S25x14 : (⟨S_, .i32⟩ : BufTy).Contents (Elt F) → (⟨S25x14, .i32⟩ : BufTy).Contents (Elt F)),
    binary main_v187 main_v192 main_v193 (muli : (⟨S25x14, .i32⟩ : BufTy).Contents (Elt F) → (⟨S25x14, .i32⟩ : BufTy).Contents (Elt F) → (⟨S25x14, .i32⟩ : BufTy).Contents (Elt F)),
    nullary main_c_31 (constantI S_ 32 38#32),
    unary main_c_31 main_v194 (broadcastInDim S25x14 ![] bcast_S_S25x14 : (⟨S_, .i32⟩ : BufTy).Contents (Elt F) → (⟨S25x14, .i32⟩ : BufTy).Contents (Elt F)),
    binary main_v193 main_v194 main_v195 (addi : (⟨S25x14, .i32⟩ : BufTy).Contents (Elt F) → (⟨S25x14, .i32⟩ : BufTy).Contents (Elt F) → (⟨S25x14, .i32⟩ : BufTy).Contents (Elt F)),
    nullary main_c_32 (constantI S_ 32 14#32),
    unary main_c_32 main_v196 (broadcastInDim S25x14 ![] bcast_S_S25x14 : (⟨S_, .i32⟩ : BufTy).Contents (Elt F) → (⟨S25x14, .i32⟩ : BufTy).Contents (Elt F)),
    binary main_v195 main_v196 main_v197 (Host.divsi : (⟨S25x14, .i32⟩ : BufTy).Contents (Elt F) → (⟨S25x14, .i32⟩ : BufTy).Contents (Elt F) → (⟨S25x14, .i32⟩ : BufTy).Contents (Elt F)),
    binary main_v197 main_v191 main_v198 (subi : (⟨S25x14, .i32⟩ : BufTy).Contents (Elt F) → (⟨S25x14, .i32⟩ : BufTy).Contents (Elt F) → (⟨S25x14, .i32⟩ : BufTy).Contents (Elt F)),
    nullary main_c_33 (constantI S_ 32 3#32),
    unary main_c_33 main_v199 (broadcastInDim S25x14 ![] bcast_S_S25x14 : (⟨S_, .i32⟩ : BufTy).Contents (Elt F) → (⟨S25x14, .i32⟩ : BufTy).Contents (Elt F)),
    binary main_v198 main_v199 main_v200 (cmpi .eq : (⟨S25x14, .i32⟩ : BufTy).Contents (Elt F) → (⟨S25x14, .i32⟩ : BufTy).Contents (Elt F) → (⟨S25x14, .i1⟩ : BufTy).Contents (Elt F)),
    nullary main_cst_34 (constant S_ .f32 0x3EAAAAAB#32) ]

/-- What it writes. -/
abbrev w12_W : List (Ref sig .tc) :=
  [main_v186, main_v187, main_c_28, main_v188, main_v189, main_c_29, main_v190, main_v191, main_c_30, main_v192, main_v193, main_c_31, main_v194, main_v195, main_c_32, main_v196, main_v197, main_v198, main_c_33, main_v199, main_v200, main_cst_34]

/-- Stretch 13: the pooling table. -/
abbrev w13 : List (HloOp τ sig (Elt F)) :=
  [ unary main_cst_34 main_v201 (broadcastInDim S25x14 ![] bcast_S_S25x14 : (⟨S_, .f32⟩ : BufTy).Contents (Elt F) → (⟨S25x14, .f32⟩ : BufTy).Contents (Elt F)),
    nullary main_cst_35 (constant S_ .f32 0x3F000000#32),
    unary main_cst_35 main_v202 (broadcastInDim S25x14 ![] bcast_S_S25x14 : (⟨S_, .f32⟩ : BufTy).Contents (Elt F) → (⟨S25x14, .f32⟩ : BufTy).Contents (Elt F)),
    ternary main_v200 main_v201 main_v202 main_v203 (select : (⟨S25x14, .i1⟩ : BufTy).Contents (Elt F) → (⟨S25x14, .f32⟩ : BufTy).Contents (Elt F) → (⟨S25x14, .f32⟩ : BufTy).Contents (Elt F) → (⟨S25x14, .f32⟩ : BufTy).Contents (Elt F)),
    binary main_v191 main_v186 main_v204 (cmpi .sle : (⟨S25x14, .i32⟩ : BufTy).Contents (Elt F) → (⟨S25x14, .i32⟩ : BufTy).Contents (Elt F) → (⟨S25x14, .i1⟩ : BufTy).Contents (Elt F)),
    binary main_v186 main_v197 main_v205 (cmpi .slt : (⟨S25x14, .i32⟩ : BufTy).Contents (Elt F) → (⟨S25x14, .i32⟩ : BufTy).Contents (Elt F) → (⟨S25x14, .i1⟩ : BufTy).Contents (Elt F)),
    binary main_v204 main_v205 main_v206 (andi : (⟨S25x14, .i1⟩ : BufTy).Contents (Elt F) → (⟨S25x14, .i1⟩ : BufTy).Contents (Elt F) → (⟨S25x14, .i1⟩ : BufTy).Contents (Elt F)),
    nullary main_cst_36 (constant S_ .f32 0x00000000#32),
    unary main_cst_36 main_v207 (broadcastInDim S25x14 ![] bcast_S_S25x14 : (⟨S_, .f32⟩ : BufTy).Contents (Elt F) → (⟨S25x14, .f32⟩ : BufTy).Contents (Elt F)),
    ternary main_v206 main_v203 main_v207 main_v208 (select : (⟨S25x14, .i1⟩ : BufTy).Contents (Elt F) → (⟨S25x14, .f32⟩ : BufTy).Contents (Elt F) → (⟨S25x14, .f32⟩ : BufTy).Contents (Elt F) → (⟨S25x14, .f32⟩ : BufTy).Contents (Elt F)) ]

/-- What it writes. -/
abbrev w13_W : List (Ref sig .tc) :=
  [main_v201, main_cst_35, main_v202, main_v203, main_v204, main_v205, main_v206, main_cst_36, main_v207, main_v208]

/-- Stretch 14: the two branches' results. -/
abbrev w14 : List (HloOp τ sig (Elt F)) :=
  [ binary main_v185 main_v208 main_v209 ((fun l r => Host.dotGeneral dot_S80x128x4x25_S25x14_S80x128x4x14_3_0_012_1_n_n none l r) : (⟨S80x128x4x25, .f32⟩ : BufTy).Contents (Elt F) → (⟨S25x14, .f32⟩ : BufTy).Contents (Elt F) → (⟨S80x128x4x14, .f32⟩ : BufTy).Contents (Elt F)),
    binary main_v39 main_v40 main_v210 (corners (F := F)),
    nullary main_cst_37 (constant S_ .f32 0x42800000#32),
    unary main_cst_37 main_v211 (broadcastInDim S80x4x4 ![] bcast_S_S80x4x4 : (⟨S_, .f32⟩ : BufTy).Contents (Elt F) → (⟨S80x4x4, .f32⟩ : BufTy).Contents (Elt F)),
    binary main_v210 main_v211 main_v212 (Host.divf : (⟨S80x4x4, .f32⟩ : BufTy).Contents (Elt F) → (⟨S80x4x4, .f32⟩ : BufTy).Contents (Elt F) → (⟨S80x4x4, .f32⟩ : BufTy).Contents (Elt F)),
    unary main_v212 main_v213 ((transpose S80x4x4 [0, 2, 1] · transposes_S80x4x4_S80x4x4_0_2_1) : (⟨S80x4x4, .f32⟩ : BufTy).Contents (Elt F) → (⟨S80x4x4, .f32⟩ : BufTy).Contents (Elt F)),
    unary main_arg5 main_v214 ((transpose S4x128 [1, 0] · transposes_S128x4_S4x128_1_0) : (⟨S128x4, .f32⟩ : BufTy).Contents (Elt F) → (⟨S4x128, .f32⟩ : BufTy).Contents (Elt F)),
    binary main_v213 main_v214 main_v215 ((fun l r => Host.dotGeneral dot_S80x4x4_S4x128_S80x4x128_2_0_01_1_n_n none l r) : (⟨S80x4x4, .f32⟩ : BufTy).Contents (Elt F) → (⟨S4x128, .f32⟩ : BufTy).Contents (Elt F) → (⟨S80x4x128, .f32⟩ : BufTy).Contents (Elt F)),
    unary main_arg6 main_v216 (broadcastInDim S1x1x128 ![2] bcast_S128_S1x1x128_2 : (⟨S128, .f32⟩ : BufTy).Contents (Elt F) → (⟨S1x1x128, .f32⟩ : BufTy).Contents (Elt F)),
    unary main_v216 main_v217 (broadcastInDim S80x4x128 ![0, 1, 2] bcast_S1x1x128_S80x4x128_0_1_2 : (⟨S1x1x128, .f32⟩ : BufTy).Contents (Elt F) → (⟨S80x4x128, .f32⟩ : BufTy).Contents (Elt F)),
    binary main_v215 main_v217 main_v218 (addf : (⟨S80x4x128, .f32⟩ : BufTy).Contents (Elt F) → (⟨S80x4x128, .f32⟩ : BufTy).Contents (Elt F) → (⟨S80x4x128, .f32⟩ : BufTy).Contents (Elt F)),
    unary main_v209 main_v219 ((transpose S80x4x128x14 [0, 2, 1, 3] · transposes_S80x128x4x14_S80x4x128x14_0_2_1_3) : (⟨S80x128x4x14, .f32⟩ : BufTy).Contents (Elt F) → (⟨S80x4x128x14, .f32⟩ : BufTy).Contents (Elt F)),
    unary main_v218 main_v220 (broadcastInDim S80x4x128x1 ![0, 1, 2] bcast_S80x4x128_S80x4x128x1_0_1_2 : (⟨S80x4x128, .f32⟩ : BufTy).Contents (Elt F) → (⟨S80x4x128x1, .f32⟩ : BufTy).Contents (Elt F)),
    unary main_v220 main_v221 (broadcastInDim S80x4x128x14 ![0, 1, 2, 3] bcast_S80x4x128x1_S80x4x128x14_0_1_2_3 : (⟨S80x4x128x1, .f32⟩ : BufTy).Contents (Elt F) → (⟨S80x4x128x14, .f32⟩ : BufTy).Contents (Elt F)),
    binary main_v219 main_v221 main_v222 (addf : (⟨S80x4x128x14, .f32⟩ : BufTy).Contents (Elt F) → (⟨S80x4x128x14, .f32⟩ : BufTy).Contents (Elt F) → (⟨S80x4x128x14, .f32⟩ : BufTy).Contents (Elt F)),
    binary main_v222 main_arg7 main_v223 ((fun l r => Host.dotGeneral dot_S80x4x128x14_S128x128_S80x4x14x128_2_1_013_0_n_n none l r) : (⟨S80x4x128x14, .f32⟩ : BufTy).Contents (Elt F) → (⟨S128x128, .f32⟩ : BufTy).Contents (Elt F) → (⟨S80x4x14x128, .f32⟩ : BufTy).Contents (Elt F)),
    unary main_v223 main_v224 ((transpose S80x4x128x14 [0, 1, 3, 2] · transposes_S80x4x14x128_S80x4x128x14_0_1_3_2) : (⟨S80x4x14x128, .f32⟩ : BufTy).Contents (Elt F) → (⟨S80x4x128x14, .f32⟩ : BufTy).Contents (Elt F)),
    unary main_arg8 main_v225 (broadcastInDim S128x1 ![0] bcast_S128_S128x1_0 : (⟨S128, .f32⟩ : BufTy).Contents (Elt F) → (⟨S128x1, .f32⟩ : BufTy).Contents (Elt F)),
    unary main_v225 main_v226 (broadcastInDim S1x1x128x1 ![2, 3] bcast_S128x1_S1x1x128x1_2_3 : (⟨S128x1, .f32⟩ : BufTy).Contents (Elt F) → (⟨S1x1x128x1, .f32⟩ : BufTy).Contents (Elt F)),
    unary main_v226 main_v227 (broadcastInDim S80x4x128x14 ![0, 1, 2, 3] bcast_S1x1x128x1_S80x4x128x14_0_1_2_3 : (⟨S1x1x128x1, .f32⟩ : BufTy).Contents (Elt F) → (⟨S80x4x128x14, .f32⟩ : BufTy).Contents (Elt F)),
    binary main_v224 main_v227 main_v228 (addf : (⟨S80x4x128x14, .f32⟩ : BufTy).Contents (Elt F) → (⟨S80x4x128x14, .f32⟩ : BufTy).Contents (Elt F) → (⟨S80x4x128x14, .f32⟩ : BufTy).Contents (Elt F)) ]

/-- What it writes. -/
abbrev w14_W : List (Ref sig .tc) :=
  [main_v209, main_v210, main_cst_37, main_v211, main_v212, main_v213, main_v214, main_v215, main_v216, main_v217, main_v218, main_v219, main_v220, main_v221, main_v222, main_v223, main_v224, main_v225, main_v226, main_v227, main_v228]

/-- Stretch 15: their blend. -/
abbrev w15 : List (HloOp τ sig (Elt F)) :=
  [ unary main_v228 main_v229 ((extractStridedSlice S40x4x128x14 ![0, 0, 0, 0] · slices_S80x4x128x14_S40x4x128x14_0_0_0_0) : (⟨S80x4x128x14, .f32⟩ : BufTy).Contents (Elt F) → (⟨S40x4x128x14, .f32⟩ : BufTy).Contents (Elt F)),
    unary main_v228 main_v230 ((extractStridedSlice S40x4x128x14 ![40, 0, 0, 0] · slices_S80x4x128x14_S40x4x128x14_40_0_0_0) : (⟨S80x4x128x14, .f32⟩ : BufTy).Contents (Elt F) → (⟨S40x4x128x14, .f32⟩ : BufTy).Contents (Elt F)),
    unary main_v229 main_v231 (Host.exp : (⟨S40x4x128x14, .f32⟩ : BufTy).Contents (Elt F) → (⟨S40x4x128x14, .f32⟩ : BufTy).Contents (Elt F)),
    binary main_v229 main_v230 main_v232 (addf : (⟨S40x4x128x14, .f32⟩ : BufTy).Contents (Elt F) → (⟨S40x4x128x14, .f32⟩ : BufTy).Contents (Elt F) → (⟨S40x4x128x14, .f32⟩ : BufTy).Contents (Elt F)),
    binary main_v231 main_v232 main_v233 (Host.divf : (⟨S40x4x128x14, .f32⟩ : BufTy).Contents (Elt F) → (⟨S40x4x128x14, .f32⟩ : BufTy).Contents (Elt F) → (⟨S40x4x128x14, .f32⟩ : BufTy).Contents (Elt F)),
    binary main_v229 main_v233 main_v234 (mulf : (⟨S40x4x128x14, .f32⟩ : BufTy).Contents (Elt F) → (⟨S40x4x128x14, .f32⟩ : BufTy).Contents (Elt F) → (⟨S40x4x128x14, .f32⟩ : BufTy).Contents (Elt F)),
    unary main_v230 main_v235 (Host.exp : (⟨S40x4x128x14, .f32⟩ : BufTy).Contents (Elt F) → (⟨S40x4x128x14, .f32⟩ : BufTy).Contents (Elt F)),
    binary main_v229 main_v230 main_v236 (addf : (⟨S40x4x128x14, .f32⟩ : BufTy).Contents (Elt F) → (⟨S40x4x128x14, .f32⟩ : BufTy).Contents (Elt F) → (⟨S40x4x128x14, .f32⟩ : BufTy).Contents (Elt F)),
    binary main_v235 main_v236 main_v237 (Host.divf : (⟨S40x4x128x14, .f32⟩ : BufTy).Contents (Elt F) → (⟨S40x4x128x14, .f32⟩ : BufTy).Contents (Elt F) → (⟨S40x4x128x14, .f32⟩ : BufTy).Contents (Elt F)),
    binary main_v230 main_v237 main_v238 (mulf : (⟨S40x4x128x14, .f32⟩ : BufTy).Contents (Elt F) → (⟨S40x4x128x14, .f32⟩ : BufTy).Contents (Elt F) → (⟨S40x4x128x14, .f32⟩ : BufTy).Contents (Elt F)),
    binary main_v234 main_v238 main_v239 (addf : (⟨S40x4x128x14, .f32⟩ : BufTy).Contents (Elt F) → (⟨S40x4x128x14, .f32⟩ : BufTy).Contents (Elt F) → (⟨S40x4x128x14, .f32⟩ : BufTy).Contents (Elt F)) ]

/-- What it writes. -/
abbrev w15_W : List (Ref sig .tc) :=
  [main_v229, main_v230, main_v231, main_v232, main_v233, main_v234, main_v235, main_v236, main_v237, main_v238, main_v239]

/-! ## They make the program -/

set_option maxRecDepth 8192 in
/-- Window 0 of the program is these stretches. -/
theorem part0_eq (c : Dev nD) : main_part0 (F := F) c = seq (w0 ++ (w1 ++ (w2 ++ (w3)))) := rfl

set_option maxRecDepth 8192 in
/-- Window 1 of the program is these stretches. -/
theorem part1_eq (c : Dev nD) : main_part1 (F := F) c = seq (w4 ++ (w5 ++ (w6))) := rfl

set_option maxRecDepth 8192 in
/-- Window 2 of the program is these stretches. -/
theorem part2_eq (c : Dev nD) : main_part2 (F := F) c = seq (w7 ++ (w8)) := rfl

set_option maxRecDepth 8192 in
/-- Window 3 of the program is these stretches. -/
theorem part3_eq (c : Dev nD) : main_part3 (F := F) c = seq (w9 ++ (w10 ++ (w11 ++ (w12)))) := rfl

set_option maxRecDepth 8192 in
/-- Window 4 of the program is these stretches. -/
theorem part4_eq (c : Dev nD) : main_part4 (F := F) c = seq (w13 ++ (w14 ++ (w15))) := rfl

/-- The program's operations. -/
abbrev ops : List (HloOp τ sig (Elt F)) :=
  (w0 ++ (w1 ++ (w2 ++ (w3)))) ++ ((w4 ++ (w5 ++ (w6))) ++ ((w7 ++ (w8)) ++ ((w9 ++ (w10 ++ (w11 ++ (w12)))) ++ ((w13 ++ (w14 ++ (w15)))))))

set_option maxRecDepth 8192 in
/-- The program is its operations in order. -/
theorem main_eq (c : Dev nD) : main (F := F) c = seq ops := by
  rw [ops, seq_append (w0 ++ _), seq_append (w4 ++ _), seq_append (w7 ++ _), seq_append (w9 ++ _), ← part0_eq c, ← part1_eq c, ← part2_eq c, ← part3_eq c, ← part4_eq c]
  rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-! ## Each stretch by itself -/

set_option maxRecDepth 8192 in
/-- Its buffers are the program's. -/
theorem w0_sub : (w0 : List (HloOp τ sig (Elt F))).Forall fun op => op.bufs ⊆ tcRefs τ sig :=
  ⟨reshape_bufs_sub .., unary_bufs_sub .., unary_bufs_sub ..⟩
set_option maxRecDepth 8192 in
/-- It makes no buffers. -/
theorem w0_fresh : (w0 : List (HloOp τ sig (Elt F))).Forall fun op => op.fresh = ∅ :=
  ⟨rfl, rfl, rfl⟩
set_option maxRecDepth 8192 in
/-- What it does not write, it keeps. -/
theorem w0_keep (V : Valuation τ sig (Elt F)) {r : Ref sig .tc} (h : r ∉ w0_W) :
    after w0 V (Proc.devRef .tc r) = V (Proc.devRef .tc r) :=
  after_unwritten w0_W rfl h V

set_option maxRecDepth 8192 in
/-- Its buffers are the program's. -/
theorem w1_sub : (w1 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., binary_bufs_sub .., reshape_bufs_sub .., unary_bufs_sub .., binary_bufs_sub .., reshape_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩
set_option maxRecDepth 8192 in
/-- It makes no buffers. -/
theorem w1_fresh : (w1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- What it does not write, it keeps. -/
theorem w1_keep (V : Valuation τ sig (Elt F)) {r : Ref sig .tc} (h : r ∉ w1_W) :
    after w1 V (Proc.devRef .tc r) = V (Proc.devRef .tc r) :=
  after_unwritten w1_W rfl h V

set_option maxRecDepth 8192 in
/-- Its buffers are the program's. -/
theorem w2_sub : (w2 : List (HloOp τ sig (Elt F))).Forall fun op => op.bufs ⊆ tcRefs τ sig :=
  ⟨unary_bufs_sub .., unary_bufs_sub .., nullary_bufs_sub .., unary_bufs_sub .., binary_bufs_sub .., unary_bufs_sub .., unary_bufs_sub .., nullary_bufs_sub .., unary_bufs_sub .., binary_bufs_sub .., binary_bufs_sub .., reshape_bufs_sub .., binary_bufs_sub .., binary_bufs_sub ..⟩
set_option maxRecDepth 8192 in
/-- It makes no buffers. -/
theorem w2_fresh : (w2 : List (HloOp τ sig (Elt F))).Forall fun op => op.fresh = ∅ :=
  ⟨rfl, rfl, rfl, rfl, rfl, rfl, rfl, rfl, rfl, rfl, rfl, rfl, rfl, rfl⟩
set_option maxRecDepth 8192 in
/-- What it does not write, it keeps. -/
theorem w2_keep (V : Valuation τ sig (Elt F)) {r : Ref sig .tc} (h : r ∉ w2_W) :
    after w2 V (Proc.devRef .tc r) = V (Proc.devRef .tc r) :=
  after_unwritten w2_W rfl h V

set_option maxRecDepth 8192 in
/-- Its buffers are the program's. -/
theorem w3_sub : (w3 : List (HloOp τ sig (Elt F))).Forall fun op => op.bufs ⊆ tcRefs τ sig :=
  ⟨nullary_bufs_sub .., nullary_bufs_sub .., unary_bufs_sub .., binary_bufs_sub .., unary_bufs_sub .., nullary_bufs_sub .., unary_bufs_sub .., binary_bufs_sub .., unary_bufs_sub ..⟩
set_option maxRecDepth 8192 in
/-- It makes no buffers. -/
theorem w3_fresh : (w3 : List (HloOp τ sig (Elt F))).Forall fun op => op.fresh = ∅ :=
  ⟨rfl, rfl, rfl, rfl, rfl, rfl, rfl, rfl, rfl⟩
set_option maxRecDepth 8192 in
/-- What it does not write, it keeps. -/
theorem w3_keep (V : Valuation τ sig (Elt F)) {r : Ref sig .tc} (h : r ∉ w3_W) :
    after w3 V (Proc.devRef .tc r) = V (Proc.devRef .tc r) :=
  after_unwritten w3_W rfl h V

set_option maxRecDepth 8192 in
/-- Its buffers are the program's. -/
theorem w4_sub : (w4 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., binary_bufs_sub ..⟩
set_option maxRecDepth 8192 in
/-- It makes no buffers. -/
theorem w4_fresh : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
set_option maxRecDepth 8192 in
/-- What it does not write, it keeps. -/
theorem w4_keep (V : Valuation τ sig (Elt F)) {r : Ref sig .tc} (h : r ∉ w4_W) :
    after w4 V (Proc.devRef .tc r) = V (Proc.devRef .tc r) :=
  after_unwritten w4_W rfl h V

set_option maxRecDepth 8192 in
/-- Its buffers are the program's. -/
theorem w5_sub : (w5 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
set_option maxRecDepth 8192 in
/-- It makes no buffers. -/
theorem w5_fresh : (w5 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
/-- What it does not write, it keeps. -/
theorem w5_keep (V : Valuation τ sig (Elt F)) {r : Ref sig .tc} (h : r ∉ w5_W) :
    after w5 V (Proc.devRef .tc r) = V (Proc.devRef .tc r) :=
  after_unwritten w5_W rfl h V

set_option maxRecDepth 8192 in
/-- Its buffers are the program's. -/
theorem w6_sub : (w6 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., nullary_bufs_sub .., unary_bufs_sub .., binary_bufs_sub .., unary_bufs_sub ..⟩
set_option maxRecDepth 8192 in
/-- It makes no buffers. -/
theorem w6_fresh : (w6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
set_option maxRecDepth 8192 in
/-- What it does not write, it keeps. -/
theorem w6_keep (V : Valuation τ sig (Elt F)) {r : Ref sig .tc} (h : r ∉ w6_W) :
    after w6 V (Proc.devRef .tc r) = V (Proc.devRef .tc r) :=
  after_unwritten w6_W rfl h V

set_option maxRecDepth 8192 in
/-- Its buffers are the program's. -/
theorem w7_sub : (w7 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub ..⟩
set_option maxRecDepth 8192 in
/-- It makes no buffers. -/
theorem w7_fresh : (w7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- What it does not write, it keeps. -/
theorem w7_keep (V : Valuation τ sig (Elt F)) {r : Ref sig .tc} (h : r ∉ w7_W) :
    after w7 V (Proc.devRef .tc r) = V (Proc.devRef .tc r) :=
  after_unwritten w7_W rfl h V

set_option maxRecDepth 8192 in
/-- Its buffers are the program's. -/
theorem w8_sub : (w8 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., binary_bufs_sub ..⟩
set_option maxRecDepth 8192 in
/-- It makes no buffers. -/
theorem w8_fresh : (w8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- What it does not write, it keeps. -/
theorem w8_keep (V : Valuation τ sig (Elt F)) {r : Ref sig .tc} (h : r ∉ w8_W) :
    after w8 V (Proc.devRef .tc r) = V (Proc.devRef .tc r) :=
  after_unwritten w8_W rfl h V

set_option maxRecDepth 8192 in
/-- Its buffers are the program's. -/
theorem w9_sub : (w9 : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub ..⟩
set_option maxRecDepth 8192 in
/-- It makes no buffers. -/
theorem w9_fresh : (w9 : List (HloOp τ sig (Elt F))).Forall fun op => op.fresh = ∅ :=
  ⟨rfl, rfl, rfl, rfl, rfl, rfl, rfl⟩
set_option maxRecDepth 8192 in
/-- What it does not write, it keeps. -/
theorem w9_keep (V : Valuation τ sig (Elt F)) {r : Ref sig .tc} (h : r ∉ w9_W) :
    after w9 V (Proc.devRef .tc r) = V (Proc.devRef .tc r) :=
  after_unwritten w9_W rfl h V

set_option maxRecDepth 8192 in
/-- Its buffers are the program's. -/
theorem w10_sub : (w10 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., unary_bufs_sub .., nullary_bufs_sub .., unary_bufs_sub .., ternary_bufs_sub ..⟩
set_option maxRecDepth 8192 in
/-- It makes no buffers. -/
theorem w10_fresh : (w10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
set_option maxRecDepth 8192 in
/-- What it does not write, it keeps. -/
theorem w10_keep (V : Valuation τ sig (Elt F)) {r : Ref sig .tc} (h : r ∉ w10_W) :
    after w10 V (Proc.devRef .tc r) = V (Proc.devRef .tc r) :=
  after_unwritten w10_W rfl h V

set_option maxRecDepth 8192 in
/-- Its buffers are the program's. -/
theorem w11_sub : (w11 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., reshape_bufs_sub ..⟩
set_option maxRecDepth 8192 in
/-- It makes no buffers. -/
theorem w11_fresh : (w11 : List (HloOp τ sig (Elt F))).Forall fun op => op.fresh = ∅ :=
  ⟨rfl, rfl, rfl, rfl, rfl, rfl, rfl, rfl, rfl, rfl⟩
set_option maxRecDepth 8192 in
/-- What it does not write, it keeps. -/
theorem w11_keep (V : Valuation τ sig (Elt F)) {r : Ref sig .tc} (h : r ∉ w11_W) :
    after w11 V (Proc.devRef .tc r) = V (Proc.devRef .tc r) :=
  after_unwritten w11_W rfl h V

set_option maxRecDepth 8192 in
/-- Its buffers are the program's. -/
theorem w12_sub : (w12 : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub ..⟩
set_option maxRecDepth 8192 in
/-- It makes no buffers. -/
theorem w12_fresh : (w12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
set_option maxRecDepth 8192 in
/-- What it does not write, it keeps. -/
theorem w12_keep (V : Valuation τ sig (Elt F)) {r : Ref sig .tc} (h : r ∉ w12_W) :
    after w12 V (Proc.devRef .tc r) = V (Proc.devRef .tc r) :=
  after_unwritten w12_W rfl h V

set_option maxRecDepth 8192 in
/-- Its buffers are the program's. -/
theorem w13_sub : (w13 : List (HloOp τ sig (Elt F))).Forall fun op => op.bufs ⊆ tcRefs τ sig :=
  ⟨unary_bufs_sub .., nullary_bufs_sub .., unary_bufs_sub .., ternary_bufs_sub .., binary_bufs_sub .., binary_bufs_sub .., binary_bufs_sub .., nullary_bufs_sub .., unary_bufs_sub .., ternary_bufs_sub ..⟩
set_option maxRecDepth 8192 in
/-- It makes no buffers. -/
theorem w13_fresh : (w13 : List (HloOp τ sig (Elt F))).Forall fun op => op.fresh = ∅ :=
  ⟨rfl, rfl, rfl, rfl, rfl, rfl, rfl, rfl, rfl, rfl⟩
set_option maxRecDepth 8192 in
/-- What it does not write, it keeps. -/
theorem w13_keep (V : Valuation τ sig (Elt F)) {r : Ref sig .tc} (h : r ∉ w13_W) :
    after w13 V (Proc.devRef .tc r) = V (Proc.devRef .tc r) :=
  after_unwritten w13_W rfl h V

set_option maxRecDepth 8192 in
/-- Its buffers are the program's. -/
theorem w14_sub : (w14 : List (HloOp τ sig (Elt F))).Forall fun op => op.bufs ⊆ tcRefs τ sig :=
  ⟨binary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., unary_bufs_sub .., unary_bufs_sub .., unary_bufs_sub .., binary_bufs_sub ..⟩
set_option maxRecDepth 8192 in
/-- It makes no buffers. -/
theorem w14_fresh : (w14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
set_option maxRecDepth 8192 in
/-- What it does not write, it keeps. -/
theorem w14_keep (V : Valuation τ sig (Elt F)) {r : Ref sig .tc} (h : r ∉ w14_W) :
    after w14 V (Proc.devRef .tc r) = V (Proc.devRef .tc r) :=
  after_unwritten w14_W rfl h V

set_option maxRecDepth 8192 in
/-- Its buffers are the program's. -/
theorem w15_sub : (w15 : List (HloOp τ sig (Elt F))).Forall fun op => op.bufs ⊆ tcRefs τ sig :=
  ⟨unary_bufs_sub .., unary_bufs_sub .., unary_bufs_sub .., binary_bufs_sub .., binary_bufs_sub .., binary_bufs_sub .., unary_bufs_sub .., binary_bufs_sub .., binary_bufs_sub .., binary_bufs_sub .., binary_bufs_sub ..⟩
set_option maxRecDepth 8192 in
/-- It makes no buffers. -/
theorem w15_fresh : (w15 : List (HloOp τ sig (Elt F))).Forall fun op => op.fresh = ∅ :=
  ⟨rfl, rfl, rfl, rfl, rfl, rfl, rfl, rfl, rfl, rfl, rfl⟩
set_option maxRecDepth 8192 in
/-- What it does not write, it keeps. -/
theorem w15_keep (V : Valuation τ sig (Elt F)) {r : Ref sig .tc} (h : r ∉ w15_W) :
    after w15 V (Proc.devRef .tc r) = V (Proc.devRef .tc r) :=
  after_unwritten w15_W rfl h V

/-- All the operations' buffers are the program's. -/
theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h | h | h | h | h | h | h | h
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h, List.forall_iff_forall_mem.mp w13_sub op h, List.forall_iff_forall_mem.mp w14_sub op h, List.forall_iff_forall_mem.mp w15_sub op h]
/-- None makes a buffer. -/
theorem ops_fresh : ∀ op ∈ (ops : List (HloOp τ sig (Elt F))), op.fresh = ∅ := fun op h => by
    simp only [ops, List.mem_append, or_assoc] at h
    rcases h with h | h | h | h | h | h | h | h | h | h | h | h | h | h | h | h
    exacts [List.forall_iff_forall_mem.mp w0_fresh op h, List.forall_iff_forall_mem.mp w1_fresh op h, List.forall_iff_forall_mem.mp w2_fresh op h, List.forall_iff_forall_mem.mp w3_fresh op h, List.forall_iff_forall_mem.mp w4_fresh op h, List.forall_iff_forall_mem.mp w5_fresh op h, List.forall_iff_forall_mem.mp w6_fresh op h, List.forall_iff_forall_mem.mp w7_fresh op h, List.forall_iff_forall_mem.mp w8_fresh op h, List.forall_iff_forall_mem.mp w9_fresh op h, List.forall_iff_forall_mem.mp w10_fresh op h, List.forall_iff_forall_mem.mp w11_fresh op h, List.forall_iff_forall_mem.mp w12_fresh op h, List.forall_iff_forall_mem.mp w13_fresh op h, List.forall_iff_forall_mem.mp w14_fresh op h, List.forall_iff_forall_mem.mp w15_fresh op h]

/-! ## The contents between the stretches -/

variable (V : Valuation τ sig (Elt F))

/-- The contents after stretch 0. -/
def after0 : Valuation τ sig (Elt F) := after w0 V

/-- The contents after stretch 1. -/
def after1 : Valuation τ sig (Elt F) := after w1 (after0 V)

/-- The contents after stretch 2. -/
def after2 : Valuation τ sig (Elt F) := after w2 (after1 V)

/-- The contents after stretch 3. -/
def after3 : Valuation τ sig (Elt F) := after w3 (after2 V)

/-- The contents after stretch 4. -/
def after4 : Valuation τ sig (Elt F) := after w4 (after3 V)

/-- The contents after stretch 5. -/
def after5 : Valuation τ sig (Elt F) := after w5 (after4 V)

/-- The contents after stretch 6. -/
def after6 : Valuation τ sig (Elt F) := after w6 (after5 V)

/-- The contents after stretch 7. -/
def after7 : Valuation τ sig (Elt F) := after w7 (after6 V)

/-- The contents after stretch 8. -/
def after8 : Valuation τ sig (Elt F) := after w8 (after7 V)

/-- The contents after stretch 9. -/
def after9 : Valuation τ sig (Elt F) := after w9 (after8 V)

/-- The contents after stretch 10. -/
def after10 : Valuation τ sig (Elt F) := after w10 (after9 V)

/-- The contents after stretch 11. -/
def after11 : Valuation τ sig (Elt F) := after w11 (after10 V)

/-- The contents after stretch 12. -/
def after12 : Valuation τ sig (Elt F) := after w12 (after11 V)

/-- The contents after stretch 13. -/
def after13 : Valuation τ sig (Elt F) := after w13 (after12 V)

/-- The contents after stretch 14. -/
def after14 : Valuation τ sig (Elt F) := after w14 (after13 V)

/-- The contents after stretch 15. -/
def after15 : Valuation τ sig (Elt F) := after w15 (after14 V)

/-- The contents at the end are those after the last stretch. -/
theorem after_ops : after ops V = after15 V := by
  simp only [ops, after_append]
  rfl

/-- A buffer that no stretch writes, such as an argument, keeps its contents. -/
theorem kept {r : Ref sig .tc} (h : r ∉ w0_W ∧ r ∉ w1_W ∧ r ∉ w2_W ∧ r ∉ w3_W ∧ r ∉ w4_W ∧ r ∉ w5_W ∧ r ∉ w6_W ∧ r ∉ w7_W ∧ r ∉ w8_W ∧ r ∉ w9_W ∧ r ∉ w10_W ∧ r ∉ w11_W ∧ r ∉ w12_W ∧ r ∉ w13_W ∧ r ∉ w14_W ∧ r ∉ w15_W) :
    after ops V (Proc.devRef .tc r) = V (Proc.devRef .tc r) := by
  obtain ⟨h0, h1, h2, h3, h4, h5, h6, h7, h8, h9, h10, h11, h12, h13, h14, h15⟩ := h
  rw [after_ops]
  exact (w15_keep _ h15).trans ((w14_keep _ h14).trans ((w13_keep _ h13).trans ((w12_keep _ h12).trans ((w11_keep _ h11).trans ((w10_keep _ h10).trans ((w9_keep _ h9).trans ((w8_keep _ h8).trans ((w7_keep _ h7).trans ((w6_keep _ h6).trans ((w5_keep _ h5).trans ((w4_keep _ h4).trans ((w3_keep _ h3).trans ((w2_keep _ h2).trans ((w1_keep _ h1).trans (w0_keep V h0)))))))))))))))

/-- The program runs: it ends with its operations' contents on every device. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v239) = after15 (launchContents m c) (Proc.devRef .tc main_v239)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v239).trans (congrFun (after_ops (launchContents m c)) (Proc.devRef .tc main_v239)),
      (h c main_arg0).trans (kept _ (by decide)), (h c main_arg1).trans (kept _ (by decide)), (h c main_arg2).trans (kept _ (by decide)),
      (h c main_arg3).trans (kept _ (by decide)), (h c main_arg4).trans (kept _ (by decide)), (h c main_arg5).trans (kept _ (by decide)),
      (h c main_arg6).trans (kept _ (by decide)), (h c main_arg7).trans (kept _ (by decide)), (h c main_arg8).trans (kept _ (by decide))⟩)
    (run_seq scopedRefs_eq scopedSems_eq defs main (fun _ => ops) main_eq (fun _ => ops_sub) m ρ fun _ => ops_fresh)

/-- Its arguments end unchanged, and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono (fun r h => ⟨fun c => (h c).2, sem_eq_zero_of_no_sems (by decide) r.2⟩) (run m ρ)

end Cert.ReferenceIdeal.Steps

end
-- ==== Proof.Top.lean ====
/- The reference's top-k: the place at rank `r` is the place found after `r` peaks are taken out. -/
module

public import proofs.«01_k».proof.Proof.Spec
public import Idealize.ShloMosaic.Lib.SortFacts

@[expose] public section

noncomputable section

namespace Cert.Spec

open Idealize.ShloMosaic

/-- The order of a top-k's list: greater values first, equal values in the order of their places. -/
def Ranked {n : Nat} (v : Fin n → EReal) (a b : Fin n) : Prop := v b < v a ∨ (v a = v b ∧ a < b)

/-- What ranks after is no larger. -/
theorem Ranked.le {n : Nat} {v : Fin n → EReal} {a b : Fin n} (h : Ranked v a b) : v b ≤ v a := by
  rcases h with h | ⟨h, -⟩
  · exact h.le
  · exact h.symm.le

/-- Inserting a place before later ones keeps the order. -/
theorem ranked_insert {n : Nat} (v : Fin n → EReal) (B : Fin n → Fin n → Bool) (hB : ∀ a b, B a b = true ↔ v b < v a) (a : Fin n)
    (l : List (Fin n)) (ha : ∀ b ∈ l, a < b) (hl : l.Pairwise (Ranked v)) : (insertBefore B a l).Pairwise (Ranked v) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore B a l).mem_iff.mp hc) with rfl | hc'
      · exact Or.inl ((hB _ _).1 h)
      · exact hl.1 c hc'
    · rename_i h
      have hba : v b ≤ v a := not_lt.1 fun h' => h ((hB _ _).2 h')
      refine List.pairwise_cons.mpr ⟨fun c hc => ?_, List.pairwise_cons.mpr hl⟩
      have hca : v c ≤ v a := by
        rcases List.mem_cons.mp hc with rfl | hc'
        · exact hba
        · exact (hl.1 c hc').le.trans hba
      rcases lt_or_eq_of_le hca with h' | h'
      · exact Or.inl h'
      · exact Or.inr ⟨h'.symm, ha c hc⟩

/-- Sorting by a comparison that says strictly larger first gives the ranking. -/
theorem ranked_sort {n : Nat} (v : Fin n → EReal) (B : Fin n → Fin n → Bool) (hB : ∀ a b, B a b = true ↔ v b < v a)
    (l : List (Fin n)) (hl : l.Pairwise (· < ·)) : (stableSort B l).Pairwise (Ranked v) := by
  induction l with
  | nil => exact List.Pairwise.nil
  | cons a l ih =>
    rw [List.pairwise_cons] at hl
    unfold stableSort
    exact ranked_insert v B hB a _ (fun b hb => hl.1 b ((perm_stableSort B l).mem_iff.mp hb)) (ih hl.2)

/-- A stable sort by "greater" ranks the places. -/
theorem ranked_sortedFrom {n : Nat} (v : Fin n → EReal) (B : Fin n → Fin n → Bool) (hB : ∀ a b, B a b = true ↔ v b < v a)
    (i j : Fin n) (hij : i < j) : Ranked v (sortedFrom B i) (sortedFrom B j) := by
  have hp : ∀ a b : Fin (sortPositions n B).length, a < b → Ranked v ((sortPositions n B).get a) ((sortPositions n B).get b) :=
    List.pairwise_iff_get.mp (ranked_sort v B hB (List.finRange n) (List.pairwise_lt_finRange n))
  unfold sortedFrom
  exact hp _ _ (by simp only [Fin.lt_def, Fin.val_cast]; exact hij)

/-- What is left after `r` peaks: the first `r` places of the ranking are taken out, and the next one is the first top. -/
theorem left_ranked (v : Fin 4096 → EReal) (hv : ∀ k, ⊥ < v k) (p : Fin 4096 → Fin 4096) (hs : Function.Surjective p)
    (hi : Function.Injective p) (hr : ∀ i j, i < j → Ranked v (p i) (p j)) (r : Nat) :
    ∀ h : r < 4096, (∀ j : Fin 4096, left v r (p j) = if j.val < r then ⊥ else v (p j)) ∧ firstTop (left v r) = p ⟨r, h⟩ := by
  induction r with
  | zero =>
    intro h
    have hl : ∀ j : Fin 4096, left v 0 (p j) = if j.val < 0 then ⊥ else v (p j) := fun j => by simp [left]
    refine ⟨hl, (firstTop_spec _).unique ⟨fun k => ?_, fun k hk => ?_⟩⟩
    · obtain ⟨j, rfl⟩ := hs k
      rcases Nat.eq_zero_or_pos j.val with h0 | h0
      · rw [show j = ⟨0, h⟩ from Fin.ext h0]
      · exact (hr ⟨0, h⟩ j h0).le
    · obtain ⟨j, rfl⟩ := hs k
      rcases Nat.eq_zero_or_pos j.val with h0 | h0
      · rw [show j = ⟨0, h⟩ from Fin.ext h0]
      · rcases hr ⟨0, h⟩ j h0 with h1 | ⟨-, h1⟩
        · exact absurd hk h1.ne
        · exact h1.le
  | succ r ih =>
    intro h
    obtain ⟨h1, h2⟩ := ih (by omega)
    have hl : ∀ j : Fin 4096, left v (r + 1) (p j) = if j.val < r + 1 then ⊥ else v (p j) := by
      intro j
      show (if p j = firstTop (left v r) then ⊥ else left v r (p j)) = _
      rw [h2, h1]
      by_cases hj : j.val = r
      · rw [if_pos (congrArg p (Fin.ext hj)), if_pos (by omega)]
      · rw [if_neg fun e => hj (congrArg Fin.val (hi e))]
        by_cases hj' : j.val < r
        · rw [if_pos hj', if_pos (by omega)]
        · rw [if_neg hj', if_neg (by omega)]
    refine ⟨hl, (firstTop_spec _).unique ⟨fun k => ?_, fun k hk => ?_⟩⟩
    · obtain ⟨j, rfl⟩ := hs k
      rw [hl, hl, if_neg (lt_irrefl (r + 1))]
      split_ifs with h0
      · exact bot_le
      · rcases Nat.lt_or_ge (r + 1) j.val with h3 | h3
        · exact (hr ⟨r + 1, h⟩ j h3).le
        · rw [show j = ⟨r + 1, h⟩ from Fin.ext (show j.val = r + 1 by omega)]
    · obtain ⟨j, rfl⟩ := hs k
      rw [hl, hl, if_neg (lt_irrefl (r + 1))] at hk
      split_ifs at hk with h0
      · exact absurd hk (hv _).ne
      · rcases Nat.lt_or_ge (r + 1) j.val with h3 | h3
        · rcases hr ⟨r + 1, h⟩ j h3 with h4 | ⟨-, h4⟩
          · exact absurd hk h4.ne
          · exact h4.le
        · rw [show j = ⟨r + 1, h⟩ from Fin.ext (show j.val = r + 1 by omega)]

/-- A top-k's index at rank `r` of a row is the place a stable sort of the row puts there. -/
theorem topK_sorted {α : Type} {A N K : Nat} (gt : α → α → BitVec 1) (x : (⟨2, ![A, N]⟩ : Shape).Idx → α)
    (h : (⟨2, ![A, N]⟩ : Shape).Slices (fun _ => 0) ⟨2, ![A, K]⟩) (n : Fin A) (r : Fin K) (hr : r.val < N) :
    (Host.topK ⟨2, ![A, K]⟩ 1 gt x h).2 (ix2 n r)
      = BitVec.ofNat 32 (sortedFrom (fun k k' => gt (x (ix2 n k)) (x (ix2 n k')) == 1#1) ⟨r.val, hr⟩).val := by
  have hd : (1 : Nat) < (⟨2, ![A, N]⟩ : Shape).rank := by show 1 < 2; omega
  have hsl : ∀ {β : Type} (y : (⟨2, ![A, N]⟩ : Shape).Idx → β),
      extractStridedSlice ⟨2, ![A, K]⟩ (fun _ => 0) y h (ix2 n r) = y (ix2 n ⟨r.val, hr⟩) := by
    intro β y
    refine congrArg y (funext fun a => ?_)
    apply Fin.ext
    fin_cases a
    · exact Nat.zero_add _
    · exact Nat.zero_add _
  have hal : ∀ (q k : Fin N), Shape.Idx.along (s := ⟨2, ![A, N]⟩) (ix2 n q) ⟨1, hd⟩ k = ix2 n k := by
    intro q k
    funext a
    fin_cases a <;> rfl
  unfold Host.topK Host.sort2
  simp only [dif_pos hd]
  refine (hsl _).trans ?_
  refine (congrArg (iotaInDim ⟨2, ![A, N]⟩ 32 ⟨1, hd⟩) (hal _ _)).trans ?_
  show BitVec.ofNat 32 (sortedFrom _ _).val = _
  refine congrArg (fun B : Fin N → Fin N → Bool => BitVec.ofNat 32 (sortedFrom B ⟨r.val, hr⟩).val) ?_
  funext k k'
  exact congrArg₂ (fun a b => gt (x a) (x b) == 1#1) (hal _ _) (hal _ _)

/-- The indices of a top-k of rows of 4096 values above −∞. -/
theorem topK_index (x : (⟨2, ![40, 4096]⟩ : Shape).Idx → EReal) (h : (⟨2, ![40, 4096]⟩ : Shape).Slices (fun _ => 0) ⟨2, ![40, 4]⟩)
    (hx : ∀ i, ⊥ < x i) (n : Fin 40) (r : Fin 4) :
    (Host.topK ⟨2, ![40, 4]⟩ 1 (FloatOps.cmpfTotal (F := Ideal) (φ := .f32) .gt) x h).2 (ix2 n r)
      = BitVec.ofNat 32 (firstTop (left (fun p => x (ix2 n p)) r.val)).val := by
  have hv : ∀ k : Fin 4096, ⊥ < (fun p => x (ix2 n p)) k := fun k => hx _
  have hB : ∀ a b : Fin 4096, ((fun k k' => FloatOps.cmpfTotal (F := Ideal) (φ := .f32) .gt (x (ix2 n k)) (x (ix2 n k')) == 1#1) a b) = true
      ↔ x (ix2 n b) < x (ix2 n a) := by
    intro a b
    show (BitVec.ofBool (decide (x (ix2 n b) < x (ix2 n a))) == 1#1) = true ↔ _
    by_cases hab : x (ix2 n b) < x (ix2 n a) <;> simp [hab, BitVec.ofBool]
  have hp := left_ranked (fun p => x (ix2 n p)) hv (sortedFrom _) (sortedFrom_surjective _) (sortedFrom_injective _)
    (fun i j hij => ranked_sortedFrom _ _ hB i j hij) r.val (by omega)
  rw [hp.2]
  exact topK_sorted _ x h n r (by omega)

end Cert.Spec

end

end
-- ==== Proof.Sides.lean ====
/- The reference's peaks and the sides of their boxes, index by index. -/
module

public import proofs.«01_k».proof.Proof.Steps
public import proofs.«01_k».proof.Proof.Spec
public import proofs.«01_k».proof.Proof.Peaks
public import proofs.«01_k».proof.Proof.Top

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo
open scoped BigOperators
open Cert.KernelIdeal.Roi (toInt_small sitofp_small)

/-! ## Reading at a cell number -/

/-- A small cell number as an index is itself. -/
theorem index_small : ∀ p : Fin 4096, min (BitVec.ofNat 32 p.val).toInt.toNat 4095 = p.val := by
  intro p
  rw [toInt_small (by omega), Int.toNat_natCast]
  omega

/-- The offsets of the frames at their peaks. -/
theorem gather_offsets (x : FVec Ideal S40x2x4096 .f32) (idx : IVec S40x4x1 32) (n : Fin 40) (a : Fin 2) (k : Fin 4) (p : Fin 4096)
    (h : idx (ix3 n k 0) = BitVec.ofNat 32 p.val) :
    Host.gather gather_S40x2x4096_S40x4x1_S40x2x4_1_2_0_0_2_2_121 x idx (ix3 n a k) = x (ix3 n a p) := by
  show x (GatherDims.operandIdx _ _ _) = _
  congr 1
  have hs : gather_S40x2x4096_S40x4x1_S40x2x4_1_2_0_0_2_2_121.siIdx (ix3 n a k) ⟨0, by decide⟩ = ix3 n k 0 := by
    funext b; fin_cases b <;> rfl
  funext b
  apply Fin.ext
  fin_cases b
  · show 0 + n.val + 0 = n.val
    omega
  · show 0 + 0 + a.val = a.val
    omega
  · show min (idx (GatherDims.siIdx _ _ _)).toInt.toNat 4095 + 0 + 0 = p.val
    exact (congrArg (fun z => min (idx z).toInt.toNat 4095) hs).trans ((congrArg (fun z : BitVec 32 => min z.toInt.toNat 4095) h).trans (index_small p))

/-- The sizes there. -/
theorem gather_sizes (x : FVec Ideal S40x4x4096 .f32) (idx : IVec S40x4x1 32) (n : Fin 40) (a : Fin 4) (k : Fin 4) (p : Fin 4096)
    (h : idx (ix3 n k 0) = BitVec.ofNat 32 p.val) :
    Host.gather gather_S40x4x4096_S40x4x1_S40x4x4_1_2_0_0_2_2_141 x idx (ix3 n a k) = x (ix3 n a p) := by
  show x (GatherDims.operandIdx _ _ _) = _
  congr 1
  have hs : gather_S40x4x4096_S40x4x1_S40x4x4_1_2_0_0_2_2_141.siIdx (ix3 n a k) ⟨0, by decide⟩ = ix3 n k 0 := by
    funext b; fin_cases b <;> rfl
  funext b
  apply Fin.ext
  fin_cases b
  · show 0 + n.val + 0 = n.val
    omega
  · show 0 + 0 + a.val = a.val
    omega
  · show min (idx (GatherDims.siIdx _ _ _)).toInt.toNat 4095 + 0 + 0 = p.val
    exact (congrArg (fun z => min (idx z).toInt.toNat 4095) hs).trans ((congrArg (fun z : BitVec 32 => min z.toInt.toNat 4095) h).trans (index_small p))

/-! ## The peak's place -/

/-- A cell's place on an axis: the column, the row. -/
def axisOf (a : Fin 2) (p : Fin 4096) : Fin 64 := if a = 0 then Spec.colOf p else Spec.rowOf p

set_option maxRecDepth 100000 in
/-- A cell's column is its number's remainder by 64, -/
theorem rem_eq : ∀ p : Fin 4096, IntOp.remsi .host (BitVec.ofNat 32 p.val) 64#32 = BitVec.ofNat 32 (Spec.colOf p).val := by
  decide +kernel
set_option maxRecDepth 100000 in
/-- and its row the quotient. -/
theorem div_eq : ∀ p : Fin 4096, IntOp.divsi .host (BitVec.ofNat 32 p.val) 64#32 = BitVec.ofNat 32 (Spec.rowOf p).val := by
  decide +kernel

/-- The place as the program finds it, from the cell number by division. -/
theorem axis_at (idx : IVec S40x4 32) (n : Fin 40) (a : Fin 2) (k : Fin 4) (p : Fin 4096) (hp : idx (ix2 n k) = BitVec.ofNat 32 p.val) :
    FloatOps.sitofp (F := Ideal) FTy.f32
        (twoAxes (F := Ideal) (e := .i32)
          (broadcastInDim S40x1x4 ![0, 2] bcast_S40x4_S40x1x4_0_2 (Host.remsi idx (broadcastInDim S40x4 ![] bcast_S_S40x4 (constantI S_ 32 64#32))))
          (broadcastInDim S40x1x4 ![0, 2] bcast_S40x4_S40x1x4_0_2 (Host.divsi idx (broadcastInDim S40x4 ![] bcast_S_S40x4 (constantI S_ 32 64#32))))
          (ix3 n a k))
      = (((axisOf a p).val : ℝ) : EReal) := by
  rw [← sitofp_small (by have := (axisOf a p).isLt; omega)]
  refine congrArg (FloatOps.sitofp (F := Ideal) FTy.f32) ?_
  obtain rfl | rfl : a = 0 ∨ a = 1 := by omega
  · pointwise [twoAxes]
    rw [hp]
    exact rem_eq p
  · pointwise [twoAxes]
    rw [hp]
    exact div_eq p

variable (V : Valuation τ sig (Elt Ideal))

/-! ## The stretches -/

/-- The heat maps, flat. -/
theorem flat_at (n : Fin 40) (p : Fin 4096) :
    (after w0 V (Proc.devRef .tc main_v0) : FVec Ideal S40x4096 .f32) (ix2 n p)
      = (V (Proc.devRef .tc main_arg0) : FVec Ideal S40x1x64x64 .f32) (ix4 n 0 (Spec.rowOf p) (Spec.colOf p)) := by
  after_reads_at
  rfl

/-- The peaks' cell numbers, of heat maps above −∞. -/
theorem peak_at (n : Fin 40) (k : Fin 4) (hm : Fin 40 → Fin 4096 → EReal)
    (hh : ∀ n p, (V (Proc.devRef .tc main_arg0) : FVec Ideal S40x1x64x64 .f32) (ix4 n 0 (Spec.rowOf p) (Spec.colOf p)) = hm n p)
    (hx : ∀ n p, ⊥ < hm n p) :
    (after w0 V (Proc.devRef .tc main_indices) : IVec S40x4 32) (ix2 n k)
      = BitVec.ofNat 32 (Spec.firstTop (Spec.left (hm n) k.val)).val := by
  after_reads_at
  refine (Spec.topK_index _ _ (fun i => ?_) n k).trans ?_
  · exact lt_of_lt_of_eq (hx (i 0) (i 1)) (hh (i 0) (i 1)).symm
  · exact congrArg (fun v => BitVec.ofNat 32 (Spec.firstTop (Spec.left v k.val)).val) (funext fun p => hh n p)

/-- The near sides, from the peaks. -/
theorem lo_at (n : Fin 40) (a : Fin 2) (k : Fin 4) (p : Fin 4096)
    (hp : (V (Proc.devRef .tc main_indices) : IVec S40x4 32) (ix2 n k) = BitVec.ofNat 32 p.val) :
    (after w1 V (Proc.devRef .tc main_v25) : FVec Ideal S40x2x4 .f32) (ix3 n a k)
      = Spec.near (((axisOf a p).val : ℝ) : EReal)
          ((V (Proc.devRef .tc main_arg1) : FVec Ideal S40x2x64x64 .f32) (ix4 n a (Spec.rowOf p) (Spec.colOf p)))
          ((V (Proc.devRef .tc main_arg2) : FVec Ideal S40x4x64x64 .f32) (ix4 n ⟨a.val, by omega⟩ (Spec.rowOf p) (Spec.colOf p)))
          ((V (Proc.devRef .tc main_arg2) : FVec Ideal S40x4x64x64 .f32) (ix4 n ⟨2 + a.val, by omega⟩ (Spec.rowOf p) (Spec.colOf p))) := by
  after_reads_at
  rw [axis_at _ n a k p hp, gather_offsets _ _ n a k p ?_, gather_sizes _ _ n _ k p ?_, gather_sizes _ _ n _ k p ?_]
  · rfl
  all_goals
    pointwise
    exact hp

/-- The far sides. -/
theorem hi_at (n : Fin 40) (a : Fin 2) (k : Fin 4) (p : Fin 4096)
    (hp : (V (Proc.devRef .tc main_indices) : IVec S40x4 32) (ix2 n k) = BitVec.ofNat 32 p.val) :
    (after w1 V (Proc.devRef .tc main_v28) : FVec Ideal S40x2x4 .f32) (ix3 n a k)
      = Spec.far (((axisOf a p).val : ℝ) : EReal)
          ((V (Proc.devRef .tc main_arg1) : FVec Ideal S40x2x64x64 .f32) (ix4 n a (Spec.rowOf p) (Spec.colOf p)))
          ((V (Proc.devRef .tc main_arg2) : FVec Ideal S40x4x64x64 .f32) (ix4 n ⟨a.val, by omega⟩ (Spec.rowOf p) (Spec.colOf p)))
          ((V (Proc.devRef .tc main_arg2) : FVec Ideal S40x4x64x64 .f32) (ix4 n ⟨2 + a.val, by omega⟩ (Spec.rowOf p) (Spec.colOf p))) := by
  after_reads_at
  rw [axis_at _ n a k p hp, gather_offsets _ _ n a k p ?_, gather_sizes _ _ n _ k p ?_, gather_sizes _ _ n _ k p ?_]
  · rfl
  all_goals
    pointwise
    exact hp

/-- The first 40 maps are the first branch's, -/
theorem feats_first (n : Fin 40) (c : Fin 128) (p : Fin 4096) (h : n.val < 80) :
    (after w2 V (Proc.devRef .tc main_v38) : FVec Ideal S80x128x4096 .f32) (ix3 ⟨n.val, h⟩ c p)
      = (V (Proc.devRef .tc main_arg3) : FVec Ideal S40x128x64x64 .f32) (ix4 n c (Spec.rowOf p) (Spec.colOf p)) := by
  after_reads_at
  pointwise [twoMaps]
  rfl
/-- the last 40 the second's. -/
theorem feats_second (n : Fin 40) (c : Fin 128) (p : Fin 4096) (h : 40 + n.val < 80) :
    (after w2 V (Proc.devRef .tc main_v38) : FVec Ideal S80x128x4096 .f32) (ix3 ⟨40 + n.val, h⟩ c p)
      = (V (Proc.devRef .tc main_arg4) : FVec Ideal S40x128x64x64 .f32) (ix4 n c (Spec.rowOf p) (Spec.colOf p)) := by
  after_reads_at
  pointwise [twoMaps]
  rfl

/-- The first branch takes the near sides as they are, -/
theorem lo_first (n : Fin 40) (a : Fin 2) (k : Fin 4) (h : n.val < 80) :
    (after w2 V (Proc.devRef .tc main_v39) : FVec Ideal S80x2x4 .f32) (ix3 ⟨n.val, h⟩ a k)
      = (V (Proc.devRef .tc main_v25) : FVec Ideal S40x2x4 .f32) (ix3 n a k) := by
  after_reads_at
  pointwise [twoBranches]
/-- and the far ones; -/
theorem hi_first (n : Fin 40) (a : Fin 2) (k : Fin 4) (h : n.val < 80) :
    (after w2 V (Proc.devRef .tc main_v40) : FVec Ideal S80x2x4 .f32) (ix3 ⟨n.val, h⟩ a k)
      = (V (Proc.devRef .tc main_v28) : FVec Ideal S40x2x4 .f32) (ix3 n a k) := by
  after_reads_at
  pointwise [twoBranches]
/-- the second takes the box's near column, -/
theorem lo_second_x (n : Fin 40) (k : Fin 4) (h : 40 + n.val < 80) :
    (after w2 V (Proc.devRef .tc main_v39) : FVec Ideal S80x2x4 .f32) (ix3 ⟨40 + n.val, h⟩ 0 k)
      = (V (Proc.devRef .tc main_v25) : FVec Ideal S40x2x4 .f32) (ix3 n 0 k) := by
  after_reads_at
  pointwise [twoBranches, twoAxes]
/-- its far one, -/
theorem hi_second_x (n : Fin 40) (k : Fin 4) (h : 40 + n.val < 80) :
    (after w2 V (Proc.devRef .tc main_v40) : FVec Ideal S80x2x4 .f32) (ix3 ⟨40 + n.val, h⟩ 0 k)
      = (V (Proc.devRef .tc main_v28) : FVec Ideal S40x2x4 .f32) (ix3 n 0 k) := by
  after_reads_at
  pointwise [twoBranches, twoAxes]
/-- and the rows from 0 -/
theorem lo_second_y (n : Fin 40) (k : Fin 4) (h : 40 + n.val < 80) :
    (after w2 V (Proc.devRef .tc main_v39) : FVec Ideal S80x2x4 .f32) (ix3 ⟨40 + n.val, h⟩ 1 k) = (0 : EReal) := by
  after_reads_at
  pointwise [twoBranches, twoAxes]
/-- to 64. -/
theorem hi_second_y (n : Fin 40) (k : Fin 4) (h : 40 + n.val < 80) :
    (after w2 V (Proc.devRef .tc main_v40) : FVec Ideal S80x2x4 .f32) (ix3 ⟨40 + n.val, h⟩ 1 k) = Spec.word 0x42800000#32 := by
  after_reads_at
  pointwise [twoBranches, twoAxes]

end Cert.ReferenceIdeal.Steps

end

end
-- ==== Proof.Samples.lean ====
/- The reference's samples, index by index. -/
module

public import proofs.«01_k».proof.Proof.Steps
public import proofs.«01_k».proof.Proof.Spec
public import proofs.«01_k».proof.Proof.Peaks

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo
open scoped BigOperators
open Cert.KernelIdeal.Roi (sitofp_small)

/-! ## A coordinate's cell as a word -/

/-- A coordinate rounded down is its cell's number. -/
theorem cell_word (v : EReal) : FloatOps.fptosi (F := Ideal) (φ := .f32) 32 (Spec.down v) = BitVec.ofNat 32 (Spec.cell v).val := by
  rw [Spec.down_eq]
  show BitVec.ofInt 32 (Ideal.toIntClamped _ _ _) = _
  rw [Ideal.toIntClamped_coe, if_pos (by positivity), Int.floor_natCast]
  have := (Spec.cell v).isLt
  rw [min_eq_right (by norm_num; omega), max_eq_right (by norm_num)]
  exact BitVec.ofInt_natCast _ _

set_option maxRecDepth 100000 in
/-- The next cell's number. -/
theorem up_word : ∀ y : Fin 64, IntOp.minsi (IntOp.addi (BitVec.ofNat 32 y.val) 1#32) 63#32 = BitVec.ofNat 32 (min (y.val + 1) 63) := by
  decide +kernel

set_option maxRecDepth 100000 in
/-- A cell's number from its row and column. -/
theorem cell_index : ∀ y x : Fin 64,
    min (IntOp.addi (IntOp.muli (BitVec.ofNat 32 y.val) 64#32) (BitVec.ofNat 32 x.val)).toInt.toNat 4095 = (Spec.cellOf y x).val := by
  decide +kernel

/-- The features of the maps at cells. -/
theorem gather_cells (f : FVec Ideal S80x128x4096 .f32) (idx : IVec S80x4x10x10x1 32) (n : Fin 80) (c : Fin 128) (k : Fin 4) (p q : Fin 10)
    (e : Fin 4096) (h : min (idx (ix5 n k p q 0)).toInt.toNat 4095 = e.val) :
    Host.gather gather_S80x128x4096_S80x4x10x10x1_S80x128x4x10x10_1_2_0_0_2_4_11281 f idx (ix5 n c k p q) = f (ix3 n c e) := by
  show f (GatherDims.operandIdx _ _ _) = _
  congr 1
  have hs : gather_S80x128x4096_S80x4x10x10x1_S80x128x4x10x10_1_2_0_0_2_4_11281.siIdx (ix5 n c k p q) ⟨0, by decide⟩ = ix5 n k p q 0 := by
    funext b; fin_cases b <;> rfl
  funext b
  apply Fin.ext
  fin_cases b
  · show 0 + n.val + 0 = n.val
    omega
  · show 0 + 0 + c.val = c.val
    omega
  · show min (idx (GatherDims.siIdx _ _ _)).toInt.toNat 4095 + 0 + 0 = e.val
    exact (congrArg (fun z => min (idx z).toInt.toNat 4095) hs).trans h

set_option maxRecDepth 100000 in
/-- The bin of a sample. -/
theorem bin_word : ∀ p : Fin 10, IntOp.divsi .host (BitVec.ofNat 32 p.val) 2#32 = BitVec.ofNat 32 (p.val / 2) := by
  decide +kernel
set_option maxRecDepth 100000 in
/-- A sample's number in its bin. -/
theorem turn_word : ∀ p : Fin 10, IntOp.remsi .host (BitVec.ofNat 32 p.val) 2#32 = BitVec.ofNat 32 (p.val % 2) := by
  decide +kernel

/-- The two offsets of a bin's samples, as words. -/
def offsetOf (s : Fin 2) : BitVec 32 := if s = 0 then 0x3E800000#32 else 0x3F400000#32

/-- The offset from a sample's number in its bin. -/
theorem offset_eq (s : Fin 2) :
    Ideal.div (((s.val : ℝ) : EReal) + Ideal.ofBits .f32 0x3F000000#32) (Ideal.ofBits .f32 0x40000000#32) = Spec.word (offsetOf s) := by
  have h2 : Ideal.ofBits .f32 0x40000000#32 = ((2 : ℝ) : EReal) := by
    simp [Ideal.ofBits, Ideal.ieee, -EReal.coe_mul]; norm_num
  have hh : Ideal.ofBits .f32 0x3F000000#32 = ((1 / 2 : ℝ) : EReal) := by
    simp [Ideal.ofBits, Ideal.ieee, -EReal.coe_mul]; norm_num
  have h1 : Spec.word 0x3E800000#32 = ((1 / 4 : ℝ) : EReal) := by
    simp [Spec.word, Ideal.ofBits, Ideal.ieee, -EReal.coe_mul]; norm_num
  have h3 : Spec.word 0x3F400000#32 = ((3 / 4 : ℝ) : EReal) := by
    simp [Spec.word, Ideal.ofBits, Ideal.ieee, -EReal.coe_mul]; norm_num
  rw [h2, hh, Ideal.div_coe (by norm_num), ← EReal.coe_add, ← EReal.coe_mul]
  obtain rfl | rfl : s = 0 ∨ s = 1 := by omega
  · rw [offsetOf, if_pos rfl, h1]; norm_num
  · rw [offsetOf, if_neg (by decide), h3]; norm_num

variable (V : Valuation τ sig (Elt Ideal))

/-! ## The stretches -/

/-- The bin of a sample, -/
theorem bin_at (p : Fin 10) : (after w3 V (Proc.devRef .tc main_v44) : FVec Ideal S10 .f32) (ix1 p) = (((p.val / 2 : ℕ) : ℝ) : EReal) := by
  after_reads_at
  exact (congrArg (FloatOps.sitofp (F := Ideal) FTy.f32) (bin_word p)).trans (sitofp_small (by omega))
/-- and its number there. -/
theorem turn_at (p : Fin 10) : (after w3 V (Proc.devRef .tc main_v47) : FVec Ideal S10 .f32) (ix1 p) = (((p.val % 2 : ℕ) : ℝ) : EReal) := by
  after_reads_at
  exact (congrArg (FloatOps.sitofp (F := Ideal) FTy.f32) (turn_word p)).trans (sitofp_small (by omega))

/-- The sampled coordinates. -/
theorem coord_at (n : Fin 80) (a : Fin 2) (k : Fin 4) (p : Fin 10) (lo hi : EReal)
    (hlo : (V (Proc.devRef .tc main_v39) : FVec Ideal S80x2x4 .f32) (ix3 n a k) = lo)
    (hhi : (V (Proc.devRef .tc main_v40) : FVec Ideal S80x2x4 .f32) (ix3 n a k) = hi)
    (hb : (V (Proc.devRef .tc main_v44) : FVec Ideal S10 .f32) (ix1 p) = (((p.val / 2 : ℕ) : ℝ) : EReal))
    (ht : (V (Proc.devRef .tc main_v47) : FVec Ideal S10 .f32) (ix1 p) = (((p.val % 2 : ℕ) : ℝ) : EReal)) :
    (after w4 V (Proc.devRef .tc main_v65) : FVec Ideal S80x2x4x10 .f32) (ix4 n a k p)
      = Spec.at1 lo (Spec.step lo hi) (offsetOf ⟨p.val % 2, by omega⟩) ⟨p.val / 2, by omega⟩ := by
  after_reads_at
  rw [hlo, hhi, hb, ht]
  exact congrArg (fun w : EReal => lo + (_ + w) * Spec.step lo hi) (offset_eq ⟨p.val % 2, by omega⟩)

/-- The part of a coordinate after the point, -/
theorem frac_at (n : Fin 80) (a : Fin 2) (k : Fin 4) (p : Fin 10) :
    (after w5 V (Proc.devRef .tc main_v77) : FVec Ideal S80x2x4x10 .f32) (ix4 n a k p)
      = Spec.frac ((V (Proc.devRef .tc main_v65) : FVec Ideal S80x2x4x10 .f32) (ix4 n a k p)) := by
  after_reads_at
  refine congrArg (fun z : EReal => Spec.kept _ - z) ?_
  refine (congrArg (FloatOps.sitofp (F := Ideal) FTy.f32) (cell_word _)).trans ?_
  rw [sitofp_small (by omega), Spec.down_eq]
/-- its lower neighbour, -/
theorem low_at (n : Fin 80) (a : Fin 2) (k : Fin 4) (p : Fin 10) :
    (after w5 V (Proc.devRef .tc main_v71) : IVec S80x2x4x10 32) (ix4 n a k p)
      = BitVec.ofNat 32 (Spec.cell ((V (Proc.devRef .tc main_v65) : FVec Ideal S80x2x4x10 .f32) (ix4 n a k p))).val := by
  after_reads_at
  exact cell_word _
/-- its upper neighbour. -/
theorem high_at (n : Fin 80) (a : Fin 2) (k : Fin 4) (p : Fin 10) :
    (after w5 V (Proc.devRef .tc main_v75) : IVec S80x2x4x10 32) (ix4 n a k p)
      = BitVec.ofNat 32 (Spec.cellUp ((V (Proc.devRef .tc main_v65) : FVec Ideal S80x2x4x10 .f32) (ix4 n a k p))).val := by
  after_reads_at
  refine (congrArg (fun z : BitVec 32 => IntOp.minsi (IntOp.addi z 1#32) 63#32) (cell_word _)).trans ?_
  exact up_word _

/-- The lower columns, -/
theorem xLow_at (n : Fin 80) (k : Fin 4) (q : Fin 10) :
    (after w6 V (Proc.devRef .tc main_v80) : IVec S80x4x1x10 32) (ix4 n k 0 q)
      = (V (Proc.devRef .tc main_v71) : IVec S80x2x4x10 32) (ix4 n 0 k q) := by
  after_reads_at
/-- the lower rows, -/
theorem yLow_at (n : Fin 80) (k : Fin 4) (p : Fin 10) :
    (after w6 V (Proc.devRef .tc main_v83) : IVec S80x4x10x1 32) (ix4 n k p 0)
      = (V (Proc.devRef .tc main_v71) : IVec S80x2x4x10 32) (ix4 n 1 k p) := by
  after_reads_at
/-- the upper columns, -/
theorem xHigh_at (n : Fin 80) (k : Fin 4) (q : Fin 10) :
    (after w6 V (Proc.devRef .tc main_v86) : IVec S80x4x1x10 32) (ix4 n k 0 q)
      = (V (Proc.devRef .tc main_v75) : IVec S80x2x4x10 32) (ix4 n 0 k q) := by
  after_reads_at
/-- the upper rows, -/
theorem yHigh_at (n : Fin 80) (k : Fin 4) (p : Fin 10) :
    (after w6 V (Proc.devRef .tc main_v89) : IVec S80x4x10x1 32) (ix4 n k p 0)
      = (V (Proc.devRef .tc main_v75) : IVec S80x2x4x10 32) (ix4 n 1 k p) := by
  after_reads_at
/-- the columns' parts after the point, -/
theorem xFrac_at (n : Fin 80) (k : Fin 4) (q : Fin 10) :
    (after w6 V (Proc.devRef .tc main_v92) : FVec Ideal S80x4x1x10 .f32) (ix4 n k 0 q)
      = (V (Proc.devRef .tc main_v77) : FVec Ideal S80x2x4x10 .f32) (ix4 n 0 k q) := by
  after_reads_at
/-- the rows' parts after the point, -/
theorem yFrac_at (n : Fin 80) (k : Fin 4) (p : Fin 10) :
    (after w6 V (Proc.devRef .tc main_v95) : FVec Ideal S80x4x10x1 .f32) (ix4 n k p 0)
      = (V (Proc.devRef .tc main_v77) : FVec Ideal S80x2x4x10 .f32) (ix4 n 1 k p) := by
  after_reads_at
/-- and the number of the first cell of a lower row. -/
theorem rowLow_at (n : Fin 80) (k : Fin 4) (p q : Fin 10) :
    (after w6 V (Proc.devRef .tc main_v98) : IVec S80x4x10x10 32) (ix4 n k p q)
      = IntOp.muli ((V (Proc.devRef .tc main_v71) : IVec S80x2x4x10 32) (ix4 n 1 k p)) 64#32 := by
  after_reads_at

section
variable {n : Fin 80} {c : Fin 128} {k : Fin 4} {p q : Fin 10} {yl yh xl xh : Fin 64} {ly lx : EReal} {f : Fin 64 → Fin 64 → EReal}
  (hf : ∀ y x, (V (Proc.devRef .tc main_v38) : FVec Ideal S80x128x4096 .f32) (ix3 n c (Spec.cellOf y x)) = f y x)
  (hxl : (V (Proc.devRef .tc main_v80) : IVec S80x4x1x10 32) (ix4 n k 0 q) = BitVec.ofNat 32 xl.val)
  (hyl : (V (Proc.devRef .tc main_v83) : IVec S80x4x10x1 32) (ix4 n k p 0) = BitVec.ofNat 32 yl.val)
  (hxh : (V (Proc.devRef .tc main_v86) : IVec S80x4x1x10 32) (ix4 n k 0 q) = BitVec.ofNat 32 xh.val)
  (hyh : (V (Proc.devRef .tc main_v89) : IVec S80x4x10x1 32) (ix4 n k p 0) = BitVec.ofNat 32 yh.val)
  (hlx : (V (Proc.devRef .tc main_v92) : FVec Ideal S80x4x1x10 .f32) (ix4 n k 0 q) = lx)
  (hly : (V (Proc.devRef .tc main_v95) : FVec Ideal S80x4x10x1 .f32) (ix4 n k p 0) = ly)
  (hrow : (V (Proc.devRef .tc main_v98) : IVec S80x4x10x10 32) (ix4 n k p q) = IntOp.muli (BitVec.ofNat 32 yl.val) 64#32)

include hf hxl hyl hxh hlx hly hrow in
/-- The first two neighbours of a sample, weighted and added. -/
theorem firstTwo_at :
    (after w7 V (Proc.devRef .tc main_v128) : FVec Ideal S80x128x4x10x10 .f32) (ix5 n c k p q)
      = f yl xl * ((1 - ly) * (1 - lx)) + f yl xh * ((1 - ly) * lx) := by
  after_reads_at
  rw [hlx, hly]
  refine congrArg₂ (fun a b : EReal => a * _ + b * _) ((gather_cells _ _ n c k p q (Spec.cellOf yl xl) ?_).trans (hf _ _))
    ((gather_cells _ _ n c k p q (Spec.cellOf yl xh) ?_).trans (hf _ _))
  · pointwise
    rw [hrow, hxl]
    exact cell_index yl xl
  · pointwise
    rw [hyl, hxh]
    exact cell_index yl xh

include hf hxl hyh hlx hly in
/-- The third, added to what there is; -/
theorem third_at (s : EReal) (hs : (V (Proc.devRef .tc main_v128) : FVec Ideal S80x128x4x10x10 .f32) (ix5 n c k p q) = s) :
    (after w8 V (Proc.devRef .tc main_v144) : FVec Ideal S80x128x4x10x10 .f32) (ix5 n c k p q) = s + f yh xl * (ly * (1 - lx)) := by
  after_reads_at
  rw [hlx, hly, hs]
  refine congrArg (fun a : EReal => _ + a * _) ((gather_cells _ _ n c k p q (Spec.cellOf yh xl) ?_).trans (hf _ _))
  pointwise
  rw [hyh, hxl]
  exact cell_index yh xl
include hf hxh hyh in
/-- the features at the fourth. -/
theorem fourth_at :
    (after w8 V (Proc.devRef .tc main_v151) : FVec Ideal S80x128x4x10x10 .f32) (ix5 n c k p q) = f yh xh := by
  after_reads_at
  refine (gather_cells _ _ n c k p q (Spec.cellOf yh xh) ?_).trans (hf _ _)
  pointwise
  rw [hyh, hxh]
  exact cell_index yh xh

include hlx hly in
/-- The fourth, weighted and added. -/
theorem sum_at (s g : EReal) (hs : (V (Proc.devRef .tc main_v144) : FVec Ideal S80x128x4x10x10 .f32) (ix5 n c k p q) = s)
    (hg : (V (Proc.devRef .tc main_v151) : FVec Ideal S80x128x4x10x10 .f32) (ix5 n c k p q) = g) :
    (after w9 V (Proc.devRef .tc main_v158) : FVec Ideal S80x128x4x10x10 .f32) (ix5 n c k p q) = s + g * (ly * lx) := by
  after_reads_at
  rw [hlx, hly, hs, hg]
end

/-- The sum where the sample lies inside, zero elsewhere. -/
theorem masked_at (n : Fin 80) (c : Fin 128) (k : Fin 4) (p q : Fin 10) (y x s : EReal)
    (hy : (V (Proc.devRef .tc main_v65) : FVec Ideal S80x2x4x10 .f32) (ix4 n 1 k p) = y)
    (hx : (V (Proc.devRef .tc main_v65) : FVec Ideal S80x2x4x10 .f32) (ix4 n 0 k q) = x)
    (hs : (V (Proc.devRef .tc main_v158) : FVec Ideal S80x128x4x10x10 .f32) (ix5 n c k p q) = s) :
    (after w10 V (Proc.devRef .tc main_v176) : FVec Ideal S80x128x4x10x10 .f32) (ix5 n c k p q)
      = Scalar.select (IntOp.andi (Spec.inside y) (Spec.inside x)) s 0 := by
  after_reads_at
  rw [hy, hx, hs]
  rfl

end Cert.ReferenceIdeal.Steps

end

end
-- ==== Proof.Heads.lean ====
/- The reference's bins, pooling, projection and blend, index by index. -/
module

public import proofs.«01_k».proof.Proof.Steps
public import proofs.«01_k».proof.Proof.Spec
public import proofs.«01_k».proof.Proof.Peaks

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo
open scoped BigOperators

set_option maxRecDepth 100000 in
/-- Where a column of the pooling table begins, as words. -/
theorem begin_word : ∀ t : Fin 14, IntOp.divsi .host (IntOp.muli (BitVec.ofNat 32 t.val) 25#32) 14#32 = BitVec.ofNat 32 (t.val * 25 / 14) := by
  decide +kernel
set_option maxRecDepth 100000 in
/-- Where it ends. -/
theorem end_word : ∀ t : Fin 14,
    IntOp.divsi .host (IntOp.addi (IntOp.muli (BitVec.ofNat 32 t.val) 25#32) 38#32) 14#32 = BitVec.ofNat 32 ((t.val * 25 + 38) / 14) := by
  decide +kernel
set_option maxRecDepth 100000 in
/-- Whether a row lies between. -/
theorem between_word : ∀ (b : Fin 25) (t : Fin 14),
    IntOp.andi (IntOp.cmpi .sle (BitVec.ofNat 32 (t.val * 25 / 14)) (BitVec.ofNat 32 b.val))
        (IntOp.cmpi .slt (BitVec.ofNat 32 b.val) (BitVec.ofNat 32 ((t.val * 25 + 38) / 14)))
      = BitVec.ofBool (decide (t.val * 25 / 14 ≤ b.val ∧ b.val < (t.val * 25 + 38) / 14)) := by
  decide +kernel
set_option maxRecDepth 100000 in
/-- Whether three rows do. -/
theorem three_word : ∀ t : Fin 14,
    IntOp.cmpi .eq (IntOp.subi (BitVec.ofNat 32 ((t.val * 25 + 38) / 14)) (BitVec.ofNat 32 (t.val * 25 / 14))) 3#32
      = BitVec.ofBool (decide ((t.val * 25 + 38) / 14 - t.val * 25 / 14 = 3)) := by
  decide +kernel

/-- A choice by a test. -/
theorem select_test {α : Type} (P : Prop) [Decidable P] (a b : α) : Scalar.select (BitVec.ofBool (decide P)) a b = if P then a else b := by
  by_cases h : P <;> simp [h, Scalar.select]

variable (V : Valuation τ sig (Elt Ideal))

/-- The means of the bins. -/
theorem mean_at (n : Fin 80) (c : Fin 128) (k : Fin 4) (b : Fin 25) (s : Fin 10 → Fin 10 → EReal)
    (hs : ∀ p q, (V (Proc.devRef .tc main_v176) : FVec Ideal S80x128x4x10x10 .f32) (ix5 n c k p q) = s p q) :
    (after w11 V (Proc.devRef .tc main_v185) : FVec Ideal S80x128x4x25 .f32) (ix4 n c k b)
      = Ideal.div ((s ⟨2 * (b.val / 5), by omega⟩ ⟨2 * (b.val % 5), by omega⟩ + s ⟨1 + 2 * (b.val / 5), by omega⟩ ⟨2 * (b.val % 5), by omega⟩)
          + (s ⟨2 * (b.val / 5), by omega⟩ ⟨1 + 2 * (b.val % 5), by omega⟩ + s ⟨1 + 2 * (b.val / 5), by omega⟩ ⟨1 + 2 * (b.val % 5), by omega⟩))
          (Spec.word 0x40800000#32) := by
  after_reads_at
  simp only [hs]

/-- Where a column of the pooling table begins, -/
theorem poolBegin_at (b : Fin 25) (t : Fin 14) :
    (after w12 V (Proc.devRef .tc main_v191) : IVec S25x14 32) (ix2 b t) = BitVec.ofNat 32 (t.val * 25 / 14) := by
  after_reads_at
  exact begin_word t
/-- where it ends, -/
theorem poolEnd_at (b : Fin 25) (t : Fin 14) :
    (after w12 V (Proc.devRef .tc main_v197) : IVec S25x14 32) (ix2 b t) = BitVec.ofNat 32 ((t.val * 25 + 38) / 14) := by
  after_reads_at
  exact end_word t
/-- the number of the row, -/
theorem poolRows_at (b : Fin 25) (t : Fin 14) :
    (after w12 V (Proc.devRef .tc main_v186) : IVec S25x14 32) (ix2 b t) = BitVec.ofNat 32 b.val := by
  after_reads_at
/-- whether the column has three rows, -/
theorem poolThree_at (b : Fin 25) (t : Fin 14) :
    (after w12 V (Proc.devRef .tc main_v200) : IVec S25x14 1) (ix2 b t)
      = BitVec.ofBool (decide ((t.val * 25 + 38) / 14 - t.val * 25 / 14 = 3)) := by
  after_reads_at
  rw [end_word, begin_word]
  exact three_word t
/-- and the weight of each of them then. -/
theorem poolThird_at : (after w12 V (Proc.devRef .tc main_cst_34) : FVec Ideal S_ .f32) ix0 = Spec.word 0x3EAAAAAB#32 := by
  after_reads_at

/-- The pooling table. -/
theorem pool_at (b : Fin 25) (t : Fin 14) :
    (after w13 (after w12 V) (Proc.devRef .tc main_v208) : FVec Ideal S25x14 .f32) (ix2 b t) = Spec.pool b t := by
  have h1 := poolBegin_at V b t
  have h2 := poolEnd_at V b t
  have h3 := poolRows_at V b t
  have h4 := poolThree_at V b t
  have h5 := poolThird_at V
  generalize after w12 V = U at h1 h2 h3 h4 h5 ⊢
  after_reads_at
  rw [h1, h2, h3, h4, h5, between_word, select_test, select_test]
  rfl

/-- A branch's result, from the means of its bins and its box. -/
theorem head_at (n : Fin 80) (k : Fin 4) (o : Fin 128) (t : Fin 14) (g : Fin 128 → Fin 5 → Fin 5 → EReal) (lo hi : Fin 2 → EReal)
    (hg : ∀ c (b : Fin 25), (V (Proc.devRef .tc main_v185) : FVec Ideal S80x128x4x25 .f32) (ix4 n c k b)
      = g c ⟨b.val / 5, by omega⟩ ⟨b.val % 5, by omega⟩)
    (hp : ∀ b t, (V (Proc.devRef .tc main_v208) : FVec Ideal S25x14 .f32) (ix2 b t) = Spec.pool b t)
    (hlo : ∀ a, (V (Proc.devRef .tc main_v39) : FVec Ideal S80x2x4 .f32) (ix3 n a k) = lo a)
    (hhi : ∀ a, (V (Proc.devRef .tc main_v40) : FVec Ideal S80x2x4 .f32) (ix3 n a k) = hi a) :
    (after w14 V (Proc.devRef .tc main_v228) : FVec Ideal S80x4x128x14 .f32) (ix4 n k o t)
      = Spec.head (fun c k => (V (Proc.devRef .tc main_arg5) : FVec Ideal S128x4 .f32) (ix2 c k))
          (fun c => (V (Proc.devRef .tc main_arg6) : FVec Ideal S128 .f32) (ix1 c))
          (fun o c => (V (Proc.devRef .tc main_arg7) : FVec Ideal S128x128 .f32) (ix2 o c))
          (fun o => (V (Proc.devRef .tc main_arg8) : FVec Ideal S128 .f32) (ix1 o))
          (fun c => Spec.pooled (g c))
          ![Ideal.div (lo 0) (Spec.word 0x42800000#32), Ideal.div (lo 1) (Spec.word 0x42800000#32),
            Ideal.div (hi 0) (Spec.word 0x42800000#32), Ideal.div (hi 1) (Spec.word 0x42800000#32)] o t := by
  after_reads_at
  pointwise [corners]
  refine congrArg (fun z : EReal => z + _) (Finset.sum_congr rfl fun c _ => ?_)
  rw [mul_comm]
  refine congrArg (fun z : EReal => _ * z) ?_
  refine congrArg₂ (fun a b : EReal => a + b) (Finset.sum_congr rfl fun b _ => ?_) (congrArg (fun z : EReal => z + _) ?_)
  · rw [hg, hp]
  · simp only [hlo, hhi, Fin.sum_univ_two, Fin.sum_univ_four, add_assoc]
    rfl

/-- The blend of the two branches. -/
theorem blend_at (n : Fin 40) (k : Fin 4) (o : Fin 128) (t : Fin 14) (g h : EReal)
    (hg : (V (Proc.devRef .tc main_v228) : FVec Ideal S80x4x128x14 .f32) (ix4 ⟨n.val, by omega⟩ k o t) = g)
    (hh : (V (Proc.devRef .tc main_v228) : FVec Ideal S80x4x128x14 .f32) (ix4 ⟨40 + n.val, by omega⟩ k o t) = h) :
    (after w15 V (Proc.devRef .tc main_v239) : FVec Ideal S40x4x128x14 .f32) (ix4 n k o t) = Spec.blend g h := by
  after_reads_at
  rw [hg, hh]
  rfl

end Cert.ReferenceIdeal.Steps

end

end
-- ==== Proof.Whole.lean ====
/- The reference's result: the stretches put together give, at every index, what the kernel computes there. -/
module

public import proofs.«01_k».proof.Proof.Sides
public import proofs.«01_k».proof.Proof.Samples
public import proofs.«01_k».proof.Proof.Heads

@[expose] public section

noncomputable section

namespace Cert.ReferenceIdeal.Steps

open Cert.ReferenceIdeal Cert.ReferenceIdeal.Gen Idealize.ShloMosaic Idealize.ShloMosaic.TcCoe Idealize.SL.Sem Idealize.ShloMosaic.StableHlo
open scoped BigOperators

variable (V : Valuation τ sig (Elt Ideal))

/-! ## What is kept between stretches -/

/-- What stretches 3 to 13 leave alone. -/
theorem kept_boxes {r : Ref sig .tc} (h : r ∉ w3_W ∧ r ∉ w4_W ∧ r ∉ w5_W ∧ r ∉ w6_W ∧ r ∉ w7_W ∧ r ∉ w8_W ∧ r ∉ w9_W ∧ r ∉ w10_W ∧ r ∉ w11_W
      ∧ r ∉ w12_W ∧ r ∉ w13_W) :
    after13 V (Proc.devRef .tc r) = after2 V (Proc.devRef .tc r) := by
  obtain ⟨h3, h4, h5, h6, h7, h8, h9, h10, h11, h12, h13⟩ := h
  exact (w13_keep _ h13).trans ((w12_keep _ h12).trans ((w11_keep _ h11).trans ((w10_keep _ h10).trans ((w9_keep _ h9).trans ((w8_keep _ h8).trans
    ((w7_keep _ h7).trans ((w6_keep _ h6).trans ((w5_keep _ h5).trans ((w4_keep _ h4).trans (w3_keep _ h3))))))))))

/-- What the first three stretches leave alone. -/
theorem kept_first {r : Ref sig .tc} (h : r ∉ w0_W ∧ r ∉ w1_W ∧ r ∉ w2_W) : after2 V (Proc.devRef .tc r) = V (Proc.devRef .tc r) := by
  obtain ⟨h0, h1, h2⟩ := h
  exact (w2_keep _ h2).trans ((w1_keep _ h1).trans (w0_keep _ h0))

/-- The coordinates, from where they are made to where they are tested. -/
theorem kept_coords : after9 V (Proc.devRef .tc main_v65) = after4 V (Proc.devRef .tc main_v65) :=
  (w9_keep _ (by decide)).trans ((w8_keep _ (by decide)).trans ((w7_keep _ (by decide)).trans ((w6_keep _ (by decide)).trans (w5_keep _ (by decide)))))

/-- The features, to where they are read. -/
theorem kept_feats : after6 V (Proc.devRef .tc main_v38) = after2 V (Proc.devRef .tc main_v38) :=
  (w6_keep _ (by decide)).trans ((w5_keep _ (by decide)).trans ((w4_keep _ (by decide)).trans (w3_keep _ (by decide))))

/-! ## One branch -/

/-- The ten coordinates on an axis: two to a bin. -/
def coords (lo hi : Fin 2 → EReal) (a : Fin 2) (p : Fin 10) : EReal :=
  Spec.at1 (lo a) (Spec.step (lo a) (hi a)) (offsetOf ⟨p.val % 2, by omega⟩) ⟨p.val / 2, by omega⟩

/-- The even ones are at the first offset, -/
theorem coords_even (lo hi : Fin 2 → EReal) (a : Fin 2) (i : Nat) (h : i < 5) :
    coords lo hi a ⟨2 * i, by omega⟩ = Spec.at1 (lo a) (Spec.step (lo a) (hi a)) 0x3E800000#32 ⟨i, h⟩ := by
  have h0 : (⟨2 * i % 2, by omega⟩ : Fin 2) = 0 := Fin.ext (show 2 * i % 2 = 0 by omega)
  have h1 : (⟨2 * i / 2, by omega⟩ : Fin 5) = ⟨i, h⟩ := Fin.ext (show 2 * i / 2 = i by omega)
  rw [coords, h0, h1]; rfl
/-- the odd ones at the second. -/
theorem coords_odd (lo hi : Fin 2 → EReal) (a : Fin 2) (i : Nat) (h : i < 5) :
    coords lo hi a ⟨1 + 2 * i, by omega⟩ = Spec.at1 (lo a) (Spec.step (lo a) (hi a)) 0x3F400000#32 ⟨i, h⟩ := by
  have h0 : (⟨(1 + 2 * i) % 2, by omega⟩ : Fin 2) = 1 := Fin.ext (show (1 + 2 * i) % 2 = 1 by omega)
  have h1 : (⟨(1 + 2 * i) / 2, by omega⟩ : Fin 5) = ⟨i, h⟩ := Fin.ext (show (1 + 2 * i) / 2 = i by omega)
  rw [coords, h0, h1]; rfl

section
variable {n : Fin 80} {k : Fin 4} {lo hi : Fin 2 → EReal} {f : Fin 128 → Fin 64 → Fin 64 → EReal}
  (hlo : ∀ a, (after2 V (Proc.devRef .tc main_v39) : FVec Ideal S80x2x4 .f32) (ix3 n a k) = lo a)
  (hhi : ∀ a, (after2 V (Proc.devRef .tc main_v40) : FVec Ideal S80x2x4 .f32) (ix3 n a k) = hi a)
  (hf : ∀ c p, (after2 V (Proc.devRef .tc main_v38) : FVec Ideal S80x128x4096 .f32) (ix3 n c p) = f c (Spec.rowOf p) (Spec.colOf p))

include hlo hhi in
/-- The coordinates, -/
theorem coords_eq (a : Fin 2) (p : Fin 10) :
    (after4 V (Proc.devRef .tc main_v65) : FVec Ideal S80x2x4x10 .f32) (ix4 n a k p) = coords lo hi a p :=
  coord_at (after3 V) n a k p _ _ ((congrFun (w3_keep (after2 V) (r := main_v39) (by decide)) _).trans (hlo a))
    ((congrFun (w3_keep (after2 V) (r := main_v40) (by decide)) _).trans (hhi a)) (bin_at (after2 V) p) (turn_at (after2 V) p)

include hlo hhi in
/-- their lower neighbours, -/
theorem low_eq (a : Fin 2) (p : Fin 10) :
    (after5 V (Proc.devRef .tc main_v71) : IVec S80x2x4x10 32) (ix4 n a k p) = BitVec.ofNat 32 (Spec.cell (coords lo hi a p)).val := by
  rw [← coords_eq V hlo hhi]
  exact low_at (after4 V) n a k p

include hlo hhi in
/-- their upper neighbours, -/
theorem high_eq (a : Fin 2) (p : Fin 10) :
    (after5 V (Proc.devRef .tc main_v75) : IVec S80x2x4x10 32) (ix4 n a k p) = BitVec.ofNat 32 (Spec.cellUp (coords lo hi a p)).val := by
  rw [← coords_eq V hlo hhi]
  exact high_at (after4 V) n a k p

include hlo hhi in
/-- their parts after the point. -/
theorem frac_eq (a : Fin 2) (p : Fin 10) :
    (after5 V (Proc.devRef .tc main_v77) : FVec Ideal S80x2x4x10 .f32) (ix4 n a k p) = Spec.frac (coords lo hi a p) :=
  (frac_at (after4 V) n a k p).trans (congrArg Spec.frac (coords_eq V hlo hhi a p))

include hf in
/-- The features, by row and column. -/
theorem feats_eq (c : Fin 128) (y x : Fin 64) :
    (after6 V (Proc.devRef .tc main_v38) : FVec Ideal S80x128x4096 .f32) (ix3 n c (Spec.cellOf y x)) = f c y x := by
  refine (congrFun (kept_feats V) _).trans ((hf c _).trans ?_)
  rw [Spec.rowOf_cellOf, Spec.colOf_cellOf]

include hlo hhi hf in
/-- The samples. -/
theorem samples_eq (c : Fin 128) (p q : Fin 10) :
    (after10 V (Proc.devRef .tc main_v176) : FVec Ideal S80x128x4x10x10 .f32) (ix5 n c k p q)
      = Spec.sample (f c) (coords lo hi 1 p) (coords lo hi 0 q) := by
  have hxl := (xLow_at (after5 V) n k q).trans (low_eq V hlo hhi 0 q)
  have hyl := (yLow_at (after5 V) n k p).trans (low_eq V hlo hhi 1 p)
  have hxh := (xHigh_at (after5 V) n k q).trans (high_eq V hlo hhi 0 q)
  have hyh := (yHigh_at (after5 V) n k p).trans (high_eq V hlo hhi 1 p)
  have hlx := (xFrac_at (after5 V) n k q).trans (frac_eq V hlo hhi 0 q)
  have hly := (yFrac_at (after5 V) n k p).trans (frac_eq V hlo hhi 1 p)
  have hrow := (rowLow_at (after5 V) n k p q).trans (congrArg (IntOp.muli · 64#32) (low_eq V hlo hhi 1 p))
  have hff := feats_eq V hf c
  have k7 {r : Ref sig .tc} (h : r ∉ w7_W) : after7 V (Proc.devRef .tc r) = after6 V (Proc.devRef .tc r) := w7_keep _ h
  have k8 {r : Ref sig .tc} (h : r ∉ w7_W ∧ r ∉ w8_W) : after8 V (Proc.devRef .tc r) = after6 V (Proc.devRef .tc r) :=
    (w8_keep _ h.2).trans (w7_keep _ h.1)
  refine masked_at (after9 V) n c k p q _ _ _ ((congrFun (kept_coords V) _).trans (coords_eq V hlo hhi 1 p))
    ((congrFun (kept_coords V) _).trans (coords_eq V hlo hhi 0 q)) ?_
  refine sum_at (after8 V) ((congrFun (k8 (r := main_v92) (by decide)) _).trans hlx) ((congrFun (k8 (r := main_v95) (by decide)) _).trans hly) _ _
    (third_at (after7 V) (f := f c) (fun y x => (congrFun (k7 (r := main_v38) (by decide)) _).trans (hff y x))
      ((congrFun (k7 (r := main_v80) (by decide)) _).trans hxl) ((congrFun (k7 (r := main_v89) (by decide)) _).trans hyh)
      ((congrFun (k7 (r := main_v92) (by decide)) _).trans hlx) ((congrFun (k7 (r := main_v95) (by decide)) _).trans hly) _
      (firstTwo_at (after6 V) hff hxl hyl hxh hlx hly hrow))
    (fourth_at (after7 V) (f := f c) (fun y x => (congrFun (k7 (r := main_v38) (by decide)) _).trans (hff y x))
      ((congrFun (k7 (r := main_v86) (by decide)) _).trans hxh) ((congrFun (k7 (r := main_v89) (by decide)) _).trans hyh))

include hlo hhi hf in
/-- The means of the bins. -/
theorem means_eq (c : Fin 128) (b : Fin 25) :
    (after11 V (Proc.devRef .tc main_v185) : FVec Ideal S80x128x4x25 .f32) (ix4 n c k b)
      = Spec.mean (f c) (Spec.at1 (lo 1) (Spec.step (lo 1) (hi 1))) (Spec.at1 (lo 0) (Spec.step (lo 0) (hi 0)))
          ⟨b.val / 5, by omega⟩ ⟨b.val % 5, by omega⟩ := by
  refine (mean_at (after10 V) n c k b _ (samples_eq V hlo hhi hf c)).trans ?_
  rw [coords_even _ _ _ (b.val / 5) (by omega), coords_even _ _ _ (b.val % 5) (by omega), coords_odd _ _ _ (b.val / 5) (by omega),
    coords_odd _ _ _ (b.val % 5) (by omega)]
  rfl

include hlo hhi hf in
/-- The branch's result. -/
theorem head_eq (o : Fin 128) (t : Fin 14) :
    (after14 V (Proc.devRef .tc main_v228) : FVec Ideal S80x4x128x14 .f32) (ix4 n k o t)
      = Spec.head (fun c k => (V (Proc.devRef .tc main_arg5) : FVec Ideal S128x4 .f32) (ix2 c k))
          (fun c => (V (Proc.devRef .tc main_arg6) : FVec Ideal S128 .f32) (ix1 c))
          (fun o c => (V (Proc.devRef .tc main_arg7) : FVec Ideal S128x128 .f32) (ix2 o c))
          (fun o => (V (Proc.devRef .tc main_arg8) : FVec Ideal S128 .f32) (ix1 o))
          (fun c => Spec.pooled (Spec.mean (f c) (Spec.at1 (lo 1) (Spec.step (lo 1) (hi 1))) (Spec.at1 (lo 0) (Spec.step (lo 0) (hi 0)))))
          ![Ideal.div (lo 0) (Spec.word 0x42800000#32), Ideal.div (lo 1) (Spec.word 0x42800000#32),
            Ideal.div (hi 0) (Spec.word 0x42800000#32), Ideal.div (hi 1) (Spec.word 0x42800000#32)] o t := by
  have hk {r : Ref sig .tc} (h : r ∉ w3_W ∧ r ∉ w4_W ∧ r ∉ w5_W ∧ r ∉ w6_W ∧ r ∉ w7_W ∧ r ∉ w8_W ∧ r ∉ w9_W ∧ r ∉ w10_W ∧ r ∉ w11_W
        ∧ r ∉ w12_W ∧ r ∉ w13_W)
      (h' : r ∉ w0_W ∧ r ∉ w1_W ∧ r ∉ w2_W) : after13 V (Proc.devRef .tc r) = V (Proc.devRef .tc r) :=
    (kept_boxes V h).trans (kept_first V h')
  refine (head_at (after13 V) n k o t _ lo hi
    (fun c b => ((congrFun (w13_keep (after12 V) (r := main_v185) (by decide)) _).trans
      (congrFun (w12_keep (after11 V) (r := main_v185) (by decide)) _)).trans (means_eq V hlo hhi hf c b))
    (pool_at (after11 V)) (fun a => (congrFun (kept_boxes V (r := main_v39) (by decide)) _).trans (hlo a))
    (fun a => (congrFun (kept_boxes V (r := main_v40) (by decide)) _).trans (hhi a))).trans ?_
  rw [hk (r := main_arg5) (by decide) (by decide), hk (r := main_arg6) (by decide) (by decide),
    hk (r := main_arg7) (by decide) (by decide), hk (r := main_arg8) (by decide) (by decide)]
end

/-! ## The whole height -/

/-- The word of 64. -/
theorem word_64 : Spec.word 0x42800000#32 = ((64 : ℝ) : EReal) := by
  simp [Spec.word, Ideal.ofBits, Ideal.ieee, -EReal.coe_mul]; norm_num

/-- The whole height by a bin. -/
theorem step_whole : Spec.step 0 (Spec.word 0x42800000#32) = ((64 / 5 : ℝ) : EReal) := by
  have h5 : Spec.word 0x40A00000#32 = ((5 : ℝ) : EReal) := by
    simp [Spec.word, Ideal.ofBits, Ideal.ieee, -EReal.coe_mul]; norm_num
  have hm : max ((64 : ℝ) : EReal) 1 = ((64 : ℝ) : EReal) := max_eq_left (by exact_mod_cast (by norm_num : (1 : ℝ) ≤ 64))
  rw [Spec.step, word_64, sub_zero, hm, h5, Ideal.div_coe (by norm_num), ← EReal.coe_mul]
  norm_num
/-- The whole height by itself is one. -/
theorem div_whole : Ideal.div (Spec.word 0x42800000#32) (Spec.word 0x42800000#32) = 1 := by
  rw [word_64, Ideal.div_coe (by norm_num), ← EReal.coe_mul]
  norm_num
/-- Nothing by the height is nothing. -/
theorem div_none : Ideal.div 0 (Spec.word 0x42800000#32) = 0 := by
  rw [word_64, Ideal.div_coe (by norm_num), zero_mul]

/-! ## The result -/

/-- The frame's data in the program's arguments. -/
abbrev dataIn (n : Fin 40) : Spec.Data :=
  Spec.dataOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) n

/-- The cell of peak `k`. -/
abbrev peakIn (n : Fin 40) (k : Fin 4) : Fin 4096 := Spec.firstTop (Spec.left (dataIn V n).hm k.val)

section
variable (hx : ∀ n p, ⊥ < (dataIn V n).hm p)
include hx

/-- The near sides; -/
theorem lo_eq (n : Fin 40) (a : Fin 2) (k : Fin 4) :
    (after1 V (Proc.devRef .tc main_v25) : FVec Ideal S40x2x4 .f32) (ix3 n a k)
      = ![(dataIn V n).x1 (peakIn V n k), (dataIn V n).y1 (peakIn V n k)] a := by
  refine (lo_at (after0 V) n a k _ (peak_at V n k (fun n => (dataIn V n).hm) (fun _ _ => rfl) hx)).trans ?_
  rw [show after0 V (Proc.devRef .tc main_arg1) = _ from w0_keep V (by decide), show after0 V (Proc.devRef .tc main_arg2) = _ from w0_keep V (by decide)]
  obtain rfl | rfl : a = 0 ∨ a = 1 := by omega
  · rfl
  · rfl
/-- the far sides. -/
theorem hi_eq (n : Fin 40) (a : Fin 2) (k : Fin 4) :
    (after1 V (Proc.devRef .tc main_v28) : FVec Ideal S40x2x4 .f32) (ix3 n a k)
      = ![(dataIn V n).x2 (peakIn V n k), (dataIn V n).y2 (peakIn V n k)] a := by
  refine (hi_at (after0 V) n a k _ (peak_at V n k (fun n => (dataIn V n).hm) (fun _ _ => rfl) hx)).trans ?_
  rw [show after0 V (Proc.devRef .tc main_arg1) = _ from w0_keep V (by decide), show after0 V (Proc.devRef .tc main_arg2) = _ from w0_keep V (by decide)]
  obtain rfl | rfl : a = 0 ∨ a = 1 := by omega
  · rfl
  · rfl

/-- The first branch's result, -/
theorem first_eq (n : Fin 40) (k : Fin 4) (o : Fin 128) (t : Fin 14) (h : n.val < 80) :
    (after14 V (Proc.devRef .tc main_v228) : FVec Ideal S80x4x128x14 .f32) (ix4 ⟨n.val, h⟩ k o t) = (dataIn V n).gh (peakIn V n k) o t := by
  have hlo (a : Fin 2) := (lo_first (after1 V) n a k h).trans (lo_eq V hx n a k)
  have hhi (a : Fin 2) := (hi_first (after1 V) n a k h).trans (hi_eq V hx n a k)
  refine (head_eq V (f := (dataIn V n).fh) hlo hhi (fun c p => (feats_first (after1 V) n c p h).trans ?_) o t).trans ?_
  · exact congrFun ((w1_keep (after0 V) (r := main_arg3) (by decide)).trans (w0_keep V (by decide))) _
  · rfl
/-- the second's, -/
theorem second_eq (n : Fin 40) (k : Fin 4) (o : Fin 128) (t : Fin 14) (h : 40 + n.val < 80) :
    (after14 V (Proc.devRef .tc main_v228) : FVec Ideal S80x4x128x14 .f32) (ix4 ⟨40 + n.val, h⟩ k o t) = (dataIn V n).gv (peakIn V n k) o t := by
  have hlo (a : Fin 2) : (after2 V (Proc.devRef .tc main_v39) : FVec Ideal S80x2x4 .f32) (ix3 ⟨40 + n.val, h⟩ a k)
      = ![(dataIn V n).x1 (peakIn V n k), 0] a := by
    obtain rfl | rfl : a = 0 ∨ a = 1 := by omega
    · exact (lo_second_x (after1 V) n k h).trans (lo_eq V hx n 0 k)
    · exact lo_second_y (after1 V) n k h
  have hhi (a : Fin 2) : (after2 V (Proc.devRef .tc main_v40) : FVec Ideal S80x2x4 .f32) (ix3 ⟨40 + n.val, h⟩ a k)
      = ![(dataIn V n).x2 (peakIn V n k), Spec.word 0x42800000#32] a := by
    obtain rfl | rfl : a = 0 ∨ a = 1 := by omega
    · exact (hi_second_x (after1 V) n k h).trans (hi_eq V hx n 0 k)
    · exact hi_second_y (after1 V) n k h
  refine (head_eq V (f := (dataIn V n).fv) hlo hhi (fun c p => (feats_second (after1 V) n c p h).trans ?_) o t).trans ?_
  · exact congrFun ((w1_keep (after0 V) (r := main_arg4) (by decide)).trans (w0_keep V (by decide))) _
  · simp only [Matrix.cons_val_zero, Matrix.cons_val_one, step_whole, div_whole, div_none]
    rfl

/-- The reference's result. -/
theorem value_eq (n : Fin 40) (k : Fin 4) (o : Fin 128) (t : Fin 14) :
    (after15 V (Proc.devRef .tc main_v239) : FVec Ideal S40x4x128x14 .f32) (ix4 n k o t) = (dataIn V n).result k o t :=
  blend_at (after14 V) n k o t _ _ (first_eq V hx n k o t _) (second_eq V hx n k o t _)
end

end Cert.ReferenceIdeal.Steps

end

end
-- ==== Proof.Agree.lean ====
/- The kernel and the reference agree: the precondition read off, and the two results side by side. -/
module

public import proofs.«01_k».proof.Defs
public import proofs.«01_k».proof.Proof.Array
public import proofs.«01_k».proof.Proof.Whole
public import proofs.«01_k».proof.Proof.Gen.KernelIdeal.Value
public import Idealize.ShloMosaic.Lib.ReduceAll

@[expose] public section

noncomputable section

namespace Cert.Agree

open Idealize.ShloMosaic Idealize.ShloMosaic.TcCoe Idealize.SL.Sem

/-- The shape relations that the precondition's operations state. -/
theorem preFacts : Cert.Pre_above_neg_inf.Facts where
  bcast_S_S40x1x64x64 := by decide
  reducesTo_S40x1x64x64_S_d0_1_2_3 := by decide
  h_S_ := by decide

/-- Where the precondition holds, every value of the heat maps lies above −∞. -/
theorem above (a0 : FVec Ideal Cert.Pre_above_neg_inf.S40x1x64x64 .f32) (a1 a2 a3 a4 a5 a6 a7 a8)
    (h : @Cert.Pre_above_neg_inf.fn preFacts Ideal _ a0 a1 a2 a3 a4 a5 a6 a7 a8 = fun _ => 1#1) (i : Cert.Pre_above_neg_inf.S40x1x64x64.Idx) :
    (⊥ : EReal) < a0 i := by
  haveI : Subsingleton Cert.Pre_above_neg_inf.S_.Idx := ⟨fun x y => funext fun a => a.elim0⟩
  have h1 := congrFun h (fun a => a.elim0)
  have h2 := Host.reduce_andi_all _ _ _ _ _ h1 i
  have h3 : BitVec.ofBool (decide (Ideal.ofBits .f32 0xFF800000#32 < a0 i)) = 1#1 := h2
  rw [Cert.KernelIdeal.Roi.word_bot] at h3
  by_contra hn
  rw [decide_eq_false hn] at h3
  exact absurd h3 (by decide)

/-- The reference's result is the kernel's, of the same arguments above −∞. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hd : ∀ n, Cert.ReferenceIdeal.Steps.dataIn (StableHlo.launchContents m' c) n = Cert.KernelIdeal.Roi.dataAt m c n)
    (hx : ∀ n p, ⊥ < (Cert.KernelIdeal.Roi.dataAt m c n).hm p) :
    (Cert.ReferenceIdeal.Steps.after15 (StableHlo.launchContents m' c) (Proc.devRef .tc Cert.ReferenceIdeal.main_v239)
        : FVec Ideal Cert.ReferenceIdeal.S40x4x128x14 .f32)
      = Cert.KernelIdeal.Roi.result m c := by
  funext i
  have hi : i = ix4 (i 0) (i 1) (i 2) (i 3) := by
    funext a; fin_cases a <;> rfl
  refine (congrArg _ hi).trans ((Cert.ReferenceIdeal.Steps.value_eq _ (fun n p => ?_) (i 0) (i 1) (i 2) (i 3)).trans ?_)
  · rw [hd n]; exact hx n p
  · exact congrArg (fun D : Cert.Spec.Data => D.result (i 1) (i 2) (i 3)) (hd (i 0))

end Cert.Agree

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel and the reference end with equal results. -/
theorem algebraic : algebraic_KernelIdeal_ReferenceIdeal_pre_above_neg_inf (hKernelIdeal := Cert.KernelIdeal.Gen.facts)
    (hReferenceIdeal := Cert.ReferenceIdeal.Gen.facts) (hPre_above_neg_inf := Cert.Agree.preFacts) := by
  intro m g m' g' hpre hagree
  refine ⟨fun c => Cert.KernelIdeal.Roi.result m c, ?_, ?_⟩
  · exact (θ_run Cert.KernelIdeal.defs _ _).mono (fun r h c => ⟨(h c).1.trans (Cert.KernelIdeal.Roi.final m c), (h c).2⟩)
      (Cert.KernelIdeal.Value.run_blocks m g)
  · refine (θ_run Cert.ReferenceIdeal.defs _ _).mono (fun r h c => ⟨(h c).1.trans ?_, (h c).2⟩) (Cert.ReferenceIdeal.Steps.run (F := Ideal) m' g')
    obtain ⟨h0, h1, h2, h3, h4, h5, h6, h7, h8⟩ := hagree c
    refine Cert.Agree.value m m' c (fun n => ?_) (fun n p => Cert.Agree.above _ _ _ _ _ _ _ _ _ (hpre c) _)
    rw [Cert.KernelIdeal.Roi.dataAt, ← h0, ← h1, ← h2, ← h3, ← h4, ← h5, ← h6, ← h7, ← h8]

/-- The three frames, the one rewrite, and the equality of the results. -/
theorem claim : Cert.Claim := ⟨Cert.Kernel.Gen.facts, Cert.KernelIdeal.Gen.facts, Cert.ReferenceIdeal.Gen.facts, Cert.Agree.preFacts,
  fun m g _ => Cert.Kernel.Gen.frame m g, fun m g _ => Cert.KernelIdeal.Gen.frame m g, fun m g _ => Cert.KernelIdeal.Gen.frame m g,
  fun m g _ => Cert.ReferenceIdeal.Steps.frame m g, fun m g _ => Cert.ReferenceIdeal.Steps.frame m g,
  IdealRules.named_const.statement Cert.KernelIdeal.κ "bin_height" .f32 0x414CCCCD#32 _ rfl, algebraic⟩

end Cert.Proof

end
